-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x5120 : Shape := ⟨2, ![64, 5120]⟩
abbrev S64 : Shape := ⟨1, ![64]⟩
abbrev S5120x5120 : Shape := ⟨2, ![5120, 5120]⟩
abbrev S5120 : Shape := ⟨1, ![5120]⟩
abbrev S32000x5120 : Shape := ⟨2, ![32000, 5120]⟩
abbrev S1x5120 : Shape := ⟨2, ![1, 5120]⟩
abbrev S512x5120 : Shape := ⟨2, ![512, 5120]⟩
abbrev S64x1 : Shape := ⟨2, ![64, 1]⟩
abbrev S64x512 : Shape := ⟨2, ![64, 512]⟩
abbrev S1x512 : Shape := ⟨2, ![1, 512]⟩
abbrev S1000x5120 : Shape := ⟨2, ![1000, 5120]⟩
abbrev S1000 : Shape := ⟨1, ![1000]⟩
abbrev S1000x1 : Shape := ⟨2, ![1000, 1]⟩
abbrev S64x1000 : Shape := ⟨2, ![64, 1000]⟩
abbrev S1x1000 : Shape := ⟨2, ![1, 1000]⟩

abbrev nBuf : Space → Nat
  | .hbm => 15
  | .vmem => 18
  | .smem => 0
  | _ => 0

abbrev bufTy : (tb : Table) → Fin (tcTables nBuf tb) → BufTy
  | .hbm, ⟨0, _⟩ => ⟨S64x5120, .f32⟩
  | .hbm, ⟨1, _⟩ => ⟨S64, .i32⟩
  | .hbm, ⟨2, _⟩ => ⟨S5120x5120, .f32⟩
  | .hbm, ⟨3, _⟩ => ⟨S5120, .f32⟩
  | .hbm, ⟨4, _⟩ => ⟨S5120, .f32⟩
  | .hbm, ⟨5, _⟩ => ⟨S5120, .f32⟩
  | .hbm, ⟨6, _⟩ => ⟨S5120x5120, .f32⟩
  | .hbm, ⟨7, _⟩ => ⟨S5120, .f32⟩
  | .hbm, ⟨8, _⟩ => ⟨S32000x5120, .f32⟩
  | .hbm, ⟨9, _⟩ => ⟨S1x5120, .f32⟩
  | .hbm, ⟨10, _⟩ => ⟨S1x5120, .f32⟩
  | .hbm, ⟨11, _⟩ => ⟨S1x5120, .f32⟩
  | .hbm, ⟨12, _⟩ => ⟨S1x5120, .f32⟩
  | .hbm, ⟨13, _⟩ => ⟨S64x5120, .f32⟩
  | .hbm, ⟨14, _⟩ => ⟨S64x5120, .f32⟩
  | .local _ .vmem, ⟨0, _⟩ => ⟨S64x5120, .f32⟩
  | .local _ .vmem, ⟨1, _⟩ => ⟨S512x5120, .f32⟩
  | .local _ .vmem, ⟨2, _⟩ => ⟨S512x5120, .f32⟩
  | .local _ .vmem, ⟨3, _⟩ => ⟨S1x5120, .f32⟩
  | .local _ .vmem, ⟨4, _⟩ => ⟨S1x5120, .f32⟩
  | .local _ .vmem, ⟨5, _⟩ => ⟨S1x5120, .f32⟩
  | .local _ .vmem, ⟨6, _⟩ => ⟨S512x5120, .f32⟩
  | .local _ .vmem, ⟨7, _⟩ => ⟨S512x5120, .f32⟩
  | .local _ .vmem, ⟨8, _⟩ => ⟨S1x5120, .f32⟩
  | .local _ .vmem, ⟨9, _⟩ => ⟨S64x5120, .f32⟩
  | .local _ .vmem, ⟨10, _⟩ => ⟨S64x5120, .f32⟩
  | .local _ .vmem, ⟨11, _⟩ => ⟨S64x1, .f32⟩
  | .local _ .vmem, ⟨12, _⟩ => ⟨S64x1, .f32⟩
  | .local _ .vmem, ⟨13, _⟩ => ⟨S64x5120, .f32⟩
  | .local _ .vmem, ⟨14, _⟩ => ⟨S1000x5120, .f32⟩
  | .local _ .vmem, ⟨15, _⟩ => ⟨S1000x5120, .f32⟩
  | .local _ .vmem, ⟨16, _⟩ => ⟨S64x5120, .f32⟩
  | .local _ .vmem, ⟨17, _⟩ => ⟨S64x1, .f32⟩
  | _, _ => ⟨S64x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_scratch0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem1_0 : DmaSem sig := 11
abbrev cc1_sem1_1 : DmaSem sig := 12
abbrev cc1_sem2_0 : DmaSem sig := 13

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c10_i32 : BitVec 32 := 10#32
  let v0 : BitVec 1 := Scalar.cmpi .slt arg0 c10_i32
  let v1 : BitVec 32 := Scalar.extui v0
  let c0_i32 : BitVec 32 := 0#32
  let v2 : BitVec 1 := Scalar.cmpi .ne v1 c0_i32
  v2

def k0_off1 (i : grid0.Coords) : Fin 2 → Nat :=
  let c0 : Index := 0#32
  let arg0 : BitVec 32 := BitVec.ofNat 32 (i 0).val
  let c512_i32 : BitVec 32 := 512#32
  let v9 : BitVec 32 := Scalar.muli arg0 c512_i32
  let v10 : Index := Scalar.indexCast v9
  ![0, v10.toNat]
def k0_cond5 (i : grid0.Coords) : BitVec 1 :=
  let arg0 : BitVec 32 := BitVec.ofNat 32 (i 0).val
  let c10_i32_2 : BitVec 32 := 10#32
  let v6 : BitVec 1 := Scalar.cmpi .sge arg0 c10_i32_2
  let v7 : BitVec 32 := Scalar.extui v6
  let c0_i32_3 : BitVec 32 := 0#32
  let v8 : BitVec 1 := Scalar.cmpi .ne v7 c0_i32_3
  v8

def k0_off2 (i : grid0.Coords) : Fin 2 → Nat :=
  let c0 : Index := 0#32
  let arg0 : BitVec 32 := BitVec.ofNat 32 (i 0).val
  let c10_i32_4 : BitVec 32 := 10#32
  let v9 : BitVec 32 := Scalar.subi arg0 c10_i32_4
  let c512_i32 : BitVec 32 := 512#32
  let v10 : BitVec 32 := Scalar.muli v9 c512_i32
  let v11 : Index := Scalar.indexCast v10
  ![0, v11.toNat]
def k0_off3 (i : grid0.Coords) : Fin 2 → Nat :=
  let c0_6 : Index := 0#32
  let arg0 : BitVec 32 := BitVec.ofNat 32 (i 0).val
  let c10_i32_4 : BitVec 32 := 10#32
  let v9 : BitVec 32 := Scalar.subi arg0 c10_i32_4
  let c512_i32_5 : BitVec 32 := 512#32
  let v13 : BitVec 32 := Scalar.muli v9 c512_i32_5
  let v14 : Index := Scalar.indexCast v13
  ![0, v14.toNat]
def k0_cond6 (i : grid0.Coords) : BitVec 1 :=
  let arg0 : BitVec 32 := BitVec.ofNat 32 (i 0).val
  let c10_i32_20 : BitVec 32 := 10#32
  let v47 : BitVec 1 := Scalar.cmpi .eq arg0 c10_i32_20
  let v48 : BitVec 32 := Scalar.extui v47
  let c0_i32_21 : BitVec 32 := 0#32
  let v49 : BitVec 1 := Scalar.cmpi .ne v48 c0_i32_21
  v49

def k0_cond7 (i : grid0.Coords) : BitVec 1 :=
  let arg0 : BitVec 32 := BitVec.ofNat 32 (i 0).val
  let c10_i32_22 : BitVec 32 := 10#32
  let v50 : BitVec 1 := Scalar.cmpi .sgt arg0 c10_i32_22
  let v51 : BitVec 32 := Scalar.extui v50
  let c0_i32_23 : BitVec 32 := 0#32
  let v52 : BitVec 1 := Scalar.cmpi .ne v51 c0_i32_23
  v52

def k0_cond8 (i : grid0.Coords) : BitVec 1 :=
  let arg0 : BitVec 32 := BitVec.ofNat 32 (i 0).val
  let c19_i32 : BitVec 32 := 19#32
  let v53 : BitVec 1 := Scalar.cmpi .eq arg0 c19_i32
  let v54 : BitVec 32 := Scalar.extui v53
  let c0_i32_24 : BitVec 32 := 0#32
  let v55 : BitVec 1 := Scalar.cmpi .ne v54 c0_i32_24
  v55

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x5120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x5120 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1000x5120 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x5120 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== KernelIdeal.lean ====
variable {F : FTy → Type} [FloatOps F] [Named F]
def κ : String → Option EReal := fun
  | "eps_sq" => some ((5316911940649 / 5316911983139663491615228241121378304 : ℝ) : EReal)
  | "inv_temp" => some ((134217728 / 13421773 : ℝ) : EReal)
  | _ => none
-- ==== ReferenceIdeal.lean ====
abbrev S64x5120 : Shape := ⟨2, ![64, 5120]⟩
abbrev S64 : Shape := ⟨1, ![64]⟩
abbrev S5120x5120 : Shape := ⟨2, ![5120, 5120]⟩
abbrev S5120 : Shape := ⟨1, ![5120]⟩
abbrev S32000x5120 : Shape := ⟨2, ![32000, 5120]⟩
abbrev S1x5120 : Shape := ⟨2, ![1, 5120]⟩
abbrev S_ : Shape := ⟨0, ![]⟩
abbrev S64x1 : Shape := ⟨2, ![64, 1]⟩
abbrev S32000 : Shape := ⟨1, ![32000]⟩
abbrev S32000x1 : Shape := ⟨2, ![32000, 1]⟩
abbrev S5120x32000 : Shape := ⟨2, ![5120, 32000]⟩
abbrev S64x32000 : Shape := ⟨2, ![64, 32000]⟩

abbrev nBuf : Space → Nat
  | .hbm => 116
  | .vmem => 0
  | .smem => 0
  | _ => 0

abbrev bufTy : (tb : Table) → Fin (tcTables nBuf tb) → BufTy
  | .hbm, ⟨0, _⟩ => ⟨S64x5120, .f32⟩
  | .hbm, ⟨1, _⟩ => ⟨S64, .i32⟩
  | .hbm, ⟨2, _⟩ => ⟨S5120x5120, .f32⟩
  | .hbm, ⟨3, _⟩ => ⟨S5120, .f32⟩
  | .hbm, ⟨4, _⟩ => ⟨S5120, .f32⟩
  | .hbm, ⟨5, _⟩ => ⟨S5120, .f32⟩
  | .hbm, ⟨6, _⟩ => ⟨S5120x5120, .f32⟩
  | .hbm, ⟨7, _⟩ => ⟨S5120, .f32⟩
  | .hbm, ⟨8, _⟩ => ⟨S32000x5120, .f32⟩
  | .hbm, ⟨9, _⟩ => ⟨S64x5120, .f32⟩
  | .hbm, ⟨10, _⟩ => ⟨S1x5120, .f32⟩
  | .hbm, ⟨11, _⟩ => ⟨S64x5120, .f32⟩
  | .hbm, ⟨12, _⟩ => ⟨S64x5120, .f32⟩
  | .hbm, ⟨13, _⟩ => ⟨S_, .f32⟩
  | .hbm, ⟨14, _⟩ => ⟨S64, .f32⟩
  | .hbm, ⟨15, _⟩ => ⟨S64x1, .f32⟩
  | .hbm, ⟨16, _⟩ => ⟨S_, .f32⟩
  | .hbm, ⟨17, _⟩ => ⟨S64x1, .f32⟩
  | .hbm, ⟨18, _⟩ => ⟨S64x1, .f32⟩
  | .hbm, ⟨19, _⟩ => ⟨S_, .i32⟩
  | .hbm, ⟨20, _⟩ => ⟨S_, .f32⟩
  | .hbm, ⟨21, _⟩ => ⟨S64, .f32⟩
  | .hbm, ⟨22, _⟩ => ⟨S64x1, .f32⟩
  | .hbm, ⟨23, _⟩ => ⟨S_, .f32⟩
  | .hbm, ⟨24, _⟩ => ⟨S64x1, .f32⟩
  | .hbm, ⟨25, _⟩ => ⟨S64x1, .f32⟩
  | .hbm, ⟨26, _⟩ => ⟨S64x5120, .f32⟩
  | .hbm, ⟨27, _⟩ => ⟨S64x5120, .f32⟩
  | .hbm, ⟨28, _⟩ => ⟨S64x5120, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S64, .f32⟩
  | .hbm, ⟨34, _⟩ => ⟨S64x1, .f32⟩
  | .hbm, ⟨35, _⟩ => ⟨S64x1, .f32⟩
  | .hbm, ⟨36, _⟩ => ⟨S64x1, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S64x1, .f32⟩
  | .hbm, ⟨42, _⟩ => ⟨S64x1, .f32⟩
  | .hbm, ⟨43, _⟩ => ⟨S64x5120, .f32⟩
  | .hbm, ⟨44, _⟩ => ⟨S64x5120, .f32⟩
  | .hbm, ⟨45, _⟩ => ⟨S_, .f32⟩
  | .hbm, ⟨46, _⟩ => ⟨S64x1, .f32⟩
  | .hbm, ⟨47, _⟩ => ⟨S64x1, .f32⟩
  | .hbm, ⟨48, _⟩ => ⟨S64x1, .f32⟩
  | .hbm, ⟨49, _⟩ => ⟨S64x5120, .f32⟩
  | .hbm, ⟨50, _⟩ => ⟨S64x5120, .f32⟩
  | .hbm, ⟨51, _⟩ => ⟨S1x5120, .f32⟩
  | .hbm, ⟨52, _⟩ => ⟨S64x5120, .f32⟩
  | .hbm, ⟨53, _⟩ => ⟨S64x5120, .f32⟩
  | .hbm, ⟨54, _⟩ => ⟨S1x5120, .f32⟩
  | .hbm, ⟨55, _⟩ => ⟨S64x5120, .f32⟩
  | .hbm, ⟨56, _⟩ => ⟨S64x5120, .f32⟩
  | .hbm, ⟨57, _⟩ => ⟨S_, .f32⟩
  | .hbm, ⟨58, _⟩ => ⟨S64x5120, .f32⟩
  | .hbm, ⟨59, _⟩ => ⟨S64x5120, .f32⟩
  | .hbm, ⟨60, _⟩ => ⟨S64x5120, .f32⟩
  | .hbm, ⟨61, _⟩ => ⟨S_, .f32⟩
  | .hbm, ⟨62, _⟩ => ⟨S64x5120, .f32⟩
  | .hbm, ⟨63, _⟩ => ⟨S64x5120, .f32⟩
  | .hbm, ⟨64, _⟩ => ⟨S64x5120, .f32⟩
  | .hbm, ⟨65, _⟩ => ⟨S64x5120, .f32⟩
  | .hbm, ⟨66, _⟩ => ⟨S64x5120, .f32⟩
  | .hbm, ⟨67, _⟩ => ⟨S1x5120, .f32⟩
  | .hbm, ⟨68, _⟩ => ⟨S64x5120, .f32⟩
  | .hbm, ⟨69, _⟩ => ⟨S64x5120, .f32⟩
  | .hbm, ⟨70, _⟩ => ⟨S_, .f32⟩
  | .hbm, ⟨71, _⟩ => ⟨S64x5120, .f32⟩
  | .hbm, ⟨72, _⟩ => ⟨S64x5120, .f32⟩
  | .hbm, ⟨73, _⟩ => ⟨S64x5120, .f32⟩
  | .hbm, ⟨74, _⟩ => ⟨S64x5120, .f32⟩
  | .hbm, ⟨75, _⟩ => ⟨S_, .f32⟩
  | .hbm, ⟨76, _⟩ => ⟨S64, .f32⟩
  | .hbm, ⟨77, _⟩ => ⟨S64x1, .f32⟩
  | .hbm, ⟨78, _⟩ => ⟨S64x1, .f32⟩
  | .hbm, ⟨79, _⟩ => ⟨S_, .f32⟩
  | .hbm, ⟨80, _⟩ => ⟨S_, .f32⟩
  | .hbm, ⟨81, _⟩ => ⟨S64x1, .f32⟩
  | .hbm, ⟨82, _⟩ => ⟨S64x1, .f32⟩
  | .hbm, ⟨83, _⟩ => ⟨S64x5120, .f32⟩
  | .hbm, ⟨84, _⟩ => ⟨S64x5120, .f32⟩
  | .hbm, ⟨85, _⟩ => ⟨S32000x5120, .f32⟩
  | .hbm, ⟨86, _⟩ => ⟨S_, .f32⟩
  | .hbm, ⟨87, _⟩ => ⟨S32000, .f32⟩
  | .hbm, ⟨88, _⟩ => ⟨S32000x1, .f32⟩
  | .hbm, ⟨89, _⟩ => ⟨S32000x1, .f32⟩
  | .hbm, ⟨90, _⟩ => ⟨S_, .f32⟩
  | .hbm, ⟨91, _⟩ => ⟨S_, .f32⟩
  | .hbm, ⟨92, _⟩ => ⟨S32000x1, .f32⟩
  | .hbm, ⟨93, _⟩ => ⟨S32000x1, .f32⟩
  | .hbm, ⟨94, _⟩ => ⟨S32000x5120, .f32⟩
  | .hbm, ⟨95, _⟩ => ⟨S32000x5120, .f32⟩
  | .hbm, ⟨96, _⟩ => ⟨S5120x32000, .f32⟩
  | .hbm, ⟨97, _⟩ => ⟨S64x32000, .f32⟩
  | .hbm, ⟨98, _⟩ => ⟨S_, .f32⟩
  | .hbm, ⟨99, _⟩ => ⟨S64x32000, .f32⟩
  | .hbm, ⟨100, _⟩ => ⟨S64x32000, .f32⟩
  | .hbm, ⟨101, _⟩ => ⟨S_, .f32⟩
  | .hbm, ⟨102, _⟩ => ⟨S64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S64x1, .f32⟩
  | .hbm, ⟨107, _⟩ => ⟨S64x32000, .f32⟩
  | .hbm, ⟨108, _⟩ => ⟨S64x32000, .f32⟩
  | .hbm, ⟨109, _⟩ => ⟨S64x32000, .f32⟩
  | .hbm, ⟨110, _⟩ => ⟨S_, .f32⟩
  | .hbm, ⟨111, _⟩ => ⟨S64, .f32⟩
  | .hbm, ⟨112, _⟩ => ⟨S64x1, .f32⟩
  | .hbm, ⟨113, _⟩ => ⟨S64x32000, .f32⟩
  | .hbm, ⟨114, _⟩ => ⟨S64x32000, .f32⟩
  | .hbm, ⟨115, _⟩ => ⟨S64x5120, .f32⟩
  | _, _ => ⟨S64x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_cst_3 : Ref sig .tc := ⟨.hbm, 37, rfl⟩
abbrev main_call0_v13 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst_1 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_2 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_3 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_4 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_call1_v0 : Ref sig .tc := ⟨.hbm, 74, rfl⟩
abbrev main_call1_cst : Ref sig .tc := ⟨.hbm, 75, rfl⟩
abbrev main_call1_v1 : Ref sig .tc := ⟨.hbm, 76, rfl⟩
abbrev main_call1_v2 : Ref sig .tc := ⟨.hbm, 77, rfl⟩
abbrev main_v36 : Ref sig .tc := ⟨.hbm, 78, rfl⟩
abbrev main_cst_5 : Ref sig .tc := ⟨.hbm, 79, rfl⟩
abbrev main_call2_v0 : Ref sig .tc := ⟨.hbm, 80, rfl⟩
abbrev main_call2_v1 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_call3_v0 : Ref sig .tc := ⟨.hbm, 85, rfl⟩
abbrev main_call3_cst : Ref sig .tc := ⟨.hbm, 86, rfl⟩
abbrev main_call3_v1 : Ref sig .tc := ⟨.hbm, 87, rfl⟩
abbrev main_call3_v2 : Ref sig .tc := ⟨.hbm, 88, rfl⟩
abbrev main_v40 : Ref sig .tc := ⟨.hbm, 89, rfl⟩
abbrev main_cst_6 : Ref sig .tc := ⟨.hbm, 90, rfl⟩
abbrev main_call4_v0 : Ref sig .tc := ⟨.hbm, 91, rfl⟩
abbrev main_call4_v1 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_cst_7 : Ref sig .tc := ⟨.hbm, 98, rfl⟩
abbrev main_v46 : Ref sig .tc := ⟨.hbm, 99, rfl⟩
abbrev main_v47 : Ref sig .tc := ⟨.hbm, 100, rfl⟩
abbrev main_cst_8 : Ref sig .tc := ⟨.hbm, 101, rfl⟩
abbrev main_v48 : Ref sig .tc := ⟨.hbm, 102, rfl⟩
abbrev main_cst_9 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_cst_10 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩

abbrev nD : Nat := 1
abbrev τ : Topo := Topo.v7x

variable {F : FTy → Type} [FloatOps F]
-- ==== Proof.FlashBody.lean ====
/- One grid point of the second call (the streamed soft quantisation), run from buffers whose contents are given: the body's triple in its three cases —
   the first point, which clears the two accumulators, a middle point, and the last point, which divides. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.ValueKit
public import Idealize.ShloMosaic.Lib.VecWindow
public import Idealize.ShloMosaic.Lib.Claim

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The point is the first: the condition of the body's first branch. -/
abbrev isFirst (i : grid1.Coords) : Prop := (Scalar.cmpi .ne (Scalar.extui (Scalar.cmpi .eq (BitVec.ofNat 32 (i 0).val) 0#32)) 0#32) = 1#1
/-- The point is the last: the condition of the body's second branch. -/
abbrev isLast (i : grid1.Coords) : Prop := (Scalar.cmpi .ne (Scalar.extui (Scalar.cmpi .eq (BitVec.ofNat 32 (i 0).val) 31#32)) 0#32) = 1#1

/-- The first branch is taken at point 0 only. -/
theorem isFirst_iff : ∀ t : Fin cfg1.N, isFirst (grid1.coords t) ↔ t.val = 0 := by
  have h : ∀ t : Fin grid1.N, isFirst (grid1.coords t) ↔ t.val = 0 := by decide +kernel
  exact h
/-- The second branch is taken at point 31 only. -/
theorem isLast_iff : ∀ t : Fin cfg1.N, isLast (grid1.coords t) ↔ t.val = 31 := by
  have h : ∀ t : Fin grid1.N, isLast (grid1.coords t) ↔ t.val = 31 := by decide +kernel
  exact h

section Body

variable (c : Dev nD) (i : grid1.Coords) (arg1 : Memref sig .tc .vmem S64x5120 .f32) (harg1 : arg1.IsWhole) (arg2 : Memref sig .tc .vmem S1000x5120 .f32) (harg2 : arg2.IsWhole)
  (arg3 : Memref sig .tc .vmem S64x5120 .f32) (harg3 : arg3.IsWhole) (arg4 : Memref sig .tc .vmem S64x1 .f32) (harg4 : arg4.IsWhole)
  (x0 : Vec F S64x5120 .f32) (x1 : Vec F S1000x5120 .f32)

/-- The first point: whatever the two accumulators held, they end at one step from zero. -/
theorem body_first (hc0 : isFirst i) (hc1 : ¬ isLast i) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (k1_pay6 x1 x0 k1_pay3)
            ∗ owns (c : Thread nD τ) arg4 fullShare (k1_pay5 x1 x0 k1_pay2)) -∗ K ⟨⟩))
      ⊢ wp frame (wpE (defs₀ (F := F)) Variants.none c none) E (cc1__flash_body i arg1 harg1 arg2 harg2 arg3 harg3 arg4 harg4) K := by
  simp only [cc1__flash_body_eq_skeleton]; unfold cc1__flash_body_skel
  simp only [k1_part1_eq_skeleton]
  unfold owns
  iintro ⟨⟨%f0, %hf0, H0⟩, ⟨%f1, %hf1, H1⟩, ⟨%d2, %f2, -, H2⟩, ⟨%ds0, %fs0, -, HS0⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    rw [View.read_writes_full]
    frame_out
  iexists _; isplitr; swap; · iexact HS0
  ipureintro
  rw [View.read_writes_full]
  frame_out

variable (a : Vec F S64x5120 .f32) (l : Vec F S64x1 .f32)

/-- A middle point: one step from what the accumulators hold. -/
theorem body_mid (hc0 : ¬ isFirst i) (hc1 : ¬ isLast i) (E : Set ℕ) (K : PUnit → sProp 𝕄) :
    iprop(owns (c : Thread nD τ) arg1 fullShare x0 ∗ owns (c : Thread nD τ) arg2 fullShare x1 ∗ owns (c : Thread nD τ) arg3 fullShare a ∗ owns (c : Thread nD τ) arg4 fullShare l
        ∗ (iprop(owns (c : Thread nD τ) arg1 fullShare x0 ∗ owns (c : Thread nD τ) arg2 fullShare x1 ∗ owns (c : Thread nD τ) arg3 fullShare (k1_pay6 x1 x0 a)
            ∗ owns (c : Thread nD τ) arg4 fullShare (k1_pay5 x1 x0 l)) -∗ K ⟨⟩))
      ⊢ wp frame (wpE (defs₀ (F := F)) Variants.none c none) E (cc1__flash_body i arg1 harg1 arg2 harg2 arg3 harg3 arg4 harg4) K := by
  simp only [cc1__flash_body_eq_skeleton]; unfold cc1__flash_body_skel
  simp only [k1_part1_eq_skeleton]
  unfold owns
  iintro ⟨⟨%f0, %hf0, H0⟩, ⟨%f1, %hf1, H1⟩, ⟨%f2, %hf2, H2⟩, ⟨%f3, %hf3, HS0⟩, Hk⟩
  obtain rfl := harg1.eq_unread hf0; obtain rfl := harg2.eq_unread hf1
  obtain rfl := harg3.eq_unread hf2; obtain rfl := harg4.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    rw [View.read_writes_full]
    frame_out
  iexists _; isplitr; swap; · iexact HS0
  ipureintro
  rw [View.read_writes_full]
  frame_out

/-- The last point: one more step, and the block is divided by the normaliser. -/
theorem body_last (hc0 : ¬ isFirst i) (hc1 : isLast i) (E : Set ℕ) (K : PUnit → sProp 𝕄) :
    iprop(owns (c : Thread nD τ) arg1 fullShare x0 ∗ owns (c : Thread nD τ) arg2 fullShare x1 ∗ owns (c : Thread nD τ) arg3 fullShare a ∗ owns (c : Thread nD τ) arg4 fullShare l
        ∗ (iprop(owns (c : Thread nD τ) arg1 fullShare x0 ∗ owns (c : Thread nD τ) arg2 fullShare x1 ∗ owns (c : Thread nD τ) arg3 fullShare (k1_pay1 (k1_pay6 x1 x0 a) (k1_pay5 x1 x0 l))
            ∗ owns (c : Thread nD τ) arg4 fullShare (k1_pay5 x1 x0 l)) -∗ K ⟨⟩))
      ⊢ wp frame (wpE (defs₀ (F := F)) Variants.none c none) E (cc1__flash_body i arg1 harg1 arg2 harg2 arg3 harg3 arg4 harg4) K := by
  simp only [cc1__flash_body_eq_skeleton]; unfold cc1__flash_body_skel
  simp only [k1_part1_eq_skeleton]
  unfold owns
  iintro ⟨⟨%f0, %hf0, H0⟩, ⟨%f1, %hf1, H1⟩, ⟨%f2, %hf2, H2⟩, ⟨%f3, %hf3, HS0⟩, Hk⟩
  obtain rfl := harg1.eq_unread hf0; obtain rfl := harg2.eq_unread hf1
  obtain rfl := harg3.eq_unread hf2; obtain rfl := harg4.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    rw [View.read_writes_full]
    frame_out
  iexists _; isplitr; swap; · iexact HS0
  ipureintro
  unfold body_last.sl.HS0_1
  rw [View.read_writes_full]
  frame_out

end Body

end Cert.KernelIdeal.Flash

end
-- ==== Proof.FlashRegion.lean ====
/- The second call over its whole grid: what the two accumulators hold after each point, the proof data of its pipeline from any contents of the
   arrays, and the body at every point. -/
module

public import proofs.«01_k».proof.Proof.FlashBody

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Dev nD → Valuation τ sig (Elt F))

/-- Window `w`'s block at point `t`, of its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The normalised rows as point `t` finds them. -/
abbrev rows (c : Dev nD) (t : Fin cfg1.N) : Vec F S64x5120 .f32 := blk V c 0 t
/-- The block of the vocabulary that point `t` reads. -/
abbrev voc (c : Dev nD) (t : Fin cfg1.N) : Vec F S1000x5120 .f32 := blk V c 1 t

/-- The two accumulators (the weighted sum, the normaliser) after point `n`. -/
def acc (c : Dev nD) : (n : ℕ) → n < cfg1.N → Vec F S64x5120 .f32 × Vec F S64x1 .f32
  | 0, h => (k1_pay6 (voc V c ⟨0, h⟩) (rows V c ⟨0, h⟩) k1_pay3, k1_pay5 (voc V c ⟨0, h⟩) (rows V c ⟨0, h⟩) k1_pay2)
  | n + 1, h => (k1_pay6 (voc V c ⟨n + 1, h⟩) (rows V c ⟨n + 1, h⟩) (acc c n (Nat.lt_of_succ_lt h)).1,
      k1_pay5 (voc V c ⟨n + 1, h⟩) (rows V c ⟨n + 1, h⟩) (acc c n (Nat.lt_of_succ_lt h)).2)

/-- At the first step the running sums are the first block's contribution on top of zero. -/
theorem acc_zero (c : Dev nD) (t : Fin cfg1.N) (ht : t.val = 0) :
    acc V c t.val t.isLt = (k1_pay6 (voc V c t) (rows V c t) k1_pay3, k1_pay5 (voc V c t) (rows V c t) k1_pay2) := by
  obtain ⟨n, hn⟩ := t; subst ht; rfl

/-- At a later step the running sums are the previous step's with this block's contribution added. -/
theorem acc_pos (c : Dev nD) (t : Fin cfg1.N) (ht : t.val ≠ 0) :
    acc V c t.val t.isLt = (k1_pay6 (voc V c t) (rows V c t) (acc V c (t.val - 1) (Nat.lt_of_le_of_lt (Nat.sub_le _ _) t.isLt)).1,
      k1_pay5 (voc V c t) (rows V c t) (acc V c (t.val - 1) (Nat.lt_of_le_of_lt (Nat.sub_le _ _) t.isLt)).2) := by
  obtain ⟨n, hn⟩ := t
  cases n with
  | zero => exact absurd rfl ht
  | succ n => rfl

/-- What the output block holds after point `t`: the accumulator, divided at the last point. -/
def left (c : Dev nD) (t : Fin cfg1.N) : Vec F S64x5120 .f32 :=
  if t.val = 31 then k1_pay1 (acc V c t.val t.isLt).1 (acc V c t.val t.isLt).2 else (acc V c t.val t.isLt).1

/-- The normaliser's buffer. -/
abbrev scM : Memref sig .tc .vmem S64x1 .f32 := Memref.whole cc1_scratch0

/-- A buffer held at some contents. -/
abbrev anyAt (c : Dev nD) (b : Ref sig .tc) : sProp 𝕄 := iprop(∃ f : Buf (Elt F) ((c : Thread nD τ).loc b), ((c : Thread nD τ).loc b) ↦{fullShare} f)

/-- The scoped buffers the second call does not use, each at some contents. -/
def others (c : Dev nD) : sProp 𝕄 :=
  iprop(anyAt c cc0_stg0_0 ∗ anyAt c cc0_stg1_0 ∗ anyAt c cc0_stg1_1 ∗ anyAt c cc0_stg2_0 ∗ anyAt c cc0_stg3_0 ∗ anyAt c cc0_stg4_0 ∗ anyAt c cc0_stg5_0 ∗ anyAt c cc0_stg5_1 ∗ anyAt c cc0_stg6_0 ∗ anyAt c cc0_stg7_0 ∗ anyAt c cc0_scratch0 ∗ anyAt c cc0_scratch1 ∗ anyAt c cc0_scratch2)

/-- The scoped buffers no window of the second call stages: its normaliser's and the others. -/
theorem rest_split (c : Dev nD) :
    (Pipeline.scopedRest spec1 c : sProp 𝕄) ⊢ iprop((∃ d, owns (c : Thread nD τ) scM fullShare d) ∗ others c) := by
  rw [scopedRest1_eq]; unfold others; simp only [scM, owns_whole]
  iintro ⟨H0, H1, H2, H3, H4, H5, H6, H7, H8, H9, H10, H11, H12, H13⟩
  isplitl [H13]; · iexact H13
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The scratch, whatever it holds, and the other arrays make up all that the call keeps beside its windows. -/
theorem rest_join (c : Dev nD) :
    iprop((∃ d, owns (c : Thread nD τ) scM fullShare d) ∗ others c) ⊢ (Pipeline.scopedRest spec1 c : sProp 𝕄) := by
  rw [scopedRest1_eq]; unfold others; simp only [scM, owns_whole]
  iintro ⟨H13, H0, H1, H2, H3, H4, H5, H6, H7, H8, H9, H10, H11, H12⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The invariant before point `n`: the normaliser at what the point before left (at the first point at anything), the other buffers at anything. -/
def inv (c : Dev nD) : (n : ℕ) → n ≤ cfg1.N → sProp 𝕄
  | 0, _ => iprop((∃ d, owns (c : Thread nD τ) scM fullShare d) ∗ others c)
  | n + 1, h => iprop(owns (c : Thread nD τ) scM fullShare (acc V c n h).2 ∗ others c)

/-- Before a later step the weights' sum scratch holds what the step before left. -/
theorem inv_pos (c : Dev nD) (n : ℕ) (h : n ≤ cfg1.N) (hn : n ≠ 0) :
    inv V c n h = iprop(owns (c : Thread nD τ) scM fullShare (acc V c (n - 1) (by omega)).2 ∗ others c) := by
  cases n with
  | zero => exact absurd rfl hn
  | succ n => rfl

/-- Before the first step the weights' sum scratch holds anything. -/
theorem inv_zero (c : Dev nD) (n : ℕ) (h : n ≤ cfg1.N) (hn : n = 0) :
    inv V c n h = iprop((∃ d, owns (c : Thread nD τ) scM fullShare d) ∗ others c) := by subst hn; rfl

/-- The proof data of the second call's pipeline, from the contents `V` of the arrays. -/
def dat (c : Dev nD) : Dat τ (Elt F) Unit ℕ (UR sig nD τ) ℕ cfg1 c where
  A w := V c (Proc.devRef .tc (Pipeline.arrRef spec1 w))
  after w t := match w with
    | ⟨0, _⟩ => blk V c 0 t
    | ⟨1, _⟩ => blk V c 1 t
    | ⟨2, _⟩ => left V c t
  Φ t := inv V c t.val (Nat.le_of_lt_succ t.isLt)
  q _ := fullShare
  owed _ := 0

/-- Each array starts as the launch finds it. -/
theorem dat_A (c : Dev nD) (w : Fin cfg1.W) : (dat V c).A w = V c (Proc.devRef .tc (Pipeline.arrRef spec1 w)) := by dsimp only [dat]
/-- The rows' window keeps its block. -/
theorem after_rows (c : Dev nD) (t : Fin cfg1.N) : (dat V c).after 0 t = blk V c 0 t := by dsimp only [dat]
/-- The vocabulary's window keeps its block. -/
theorem after_voc (c : Dev nD) (t : Fin cfg1.N) : (dat V c).after 1 t = blk V c 1 t := by dsimp only [dat]
/-- The output window ends a step with what the step leaves. -/
theorem after_out (c : Dev nD) (t : Fin cfg1.N) : (dat V c).after 2 t = left V c t := by dsimp only [dat]

/-- The rows' buffer holds the rows at every point. -/
theorem before_rows (c : Dev nD) (t : Fin cfg1.N) (d) : (dat V c).before 0 t d = blk V c 0 t :=
  ((dat V c).before_in_eq_fetched 0 rfl (fun _ => rfl) (fun _ _ _ => rfl) (fun t => by rw [after_rows]; unfold Dat.blockOf blk; rw [dat_A]; try rfl) t d).trans
    (by unfold Dat.fetched Dat.blockOf blk; rw [dat_A]; try rfl)
/-- The vocabulary's buffer holds the point's block at every point. -/
theorem before_voc (c : Dev nD) (t : Fin cfg1.N) (d) : (dat V c).before 1 t d = blk V c 1 t :=
  ((dat V c).before_in_eq_fetched 1 rfl (fun _ => rfl) (fun _ _ _ => rfl) (fun t => by rw [after_voc]; unfold Dat.blockOf blk; rw [dat_A]; try rfl) t d).trans
    (by unfold Dat.fetched Dat.blockOf blk; rw [dat_A]; try rfl)
/-- After the first point the output's buffer holds the accumulator of the point before. -/
theorem before_out (c : Dev nD) (t : Fin cfg1.N) (ht : t.val ≠ 0) (d) :
    (dat V c).before 2 t d = (acc V c (t.val - 1) (Nat.lt_of_le_of_lt (Nat.sub_le _ _) t.isLt)).1 := by
  have hN : t.val < 32 := lt_of_lt_of_eq t.isLt (show cfg1.N = 32 from N_1)
  rw [Dat.before_out_kept _ 2 rfl t ht (Bool.eq_false_iff.mpr fun h => by have := (flush1_2 _).mp h; dsimp only at this; omega)
    (fun _ => rfl) (fun _ _ => rfl), after_out]
  unfold left; rw [if_neg (by dsimp only; omega)]

/-- What the body finds at point `t`. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- What the body leaves at point `t`. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

set_option maxHeartbeats 4000000 in
/-- The body at any point, by its three cases. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rows, before_voc]
  rw [show (dat V c).owesAt () t.succ = (dat V c).owesAt () t.castSucc from rfl, after_rows, after_voc, after_out,
    show (dat V c).Φ t.succ = inv V c (t.val + 1) t.isLt from rfl, inv_pos V c (t.val + 1) _ (Nat.succ_ne_zero _),
    show (dat V c).Φ t.castSucc = inv V c t.val (Nat.le_of_lt t.isLt) from by dsimp only [dat]; exact Pipeline.Dat.Φ_castSucc (inv V c) t]
  simp only [Nat.add_sub_cancel]
  by_cases h0 : t.val = 0
  · rw [inv_zero V c _ _ h0, acc_zero V c t h0]
    unfold left; rw [if_neg (by omega), acc_zero V c t h0]
    iintro ⟨⟨HS, Ho⟩, Hw, ⟨%d0, H0⟩, ⟨%d1, H1⟩, ⟨%d2, H2⟩⟩
    iapply (body_first c (grid1.coords t) _ _ _ _ _ _ _ _ (blk V c 0 t) (blk V c 1 t) ((isFirst_iff t).mpr h0) (fun h => by have := (isLast_iff t).mp h; omega) Set.univ _)
    isplitl [H0]; · iexact H0
    isplitl [H1]; · iexact H1
    isplitl [H2]; · iexists _; iexact H2
    isplitl [HS]; · iexact HS
    iintro ⟨H0, H1, H2, HS⟩
    isplitl [HS Ho]
    · isplitl [HS]; · iexact HS
      iexact Ho
    isplitl [Hw]; · iexact Hw
    isplitl [H0]; · iexact H0
    isplitl [H1]; · iexact H1
    iexact H2
  · simp only [before_out V c t h0]
    rw [inv_pos V c _ _ h0, acc_pos V c t h0]
    unfold left
    by_cases h1 : t.val = 31
    · rw [if_pos h1, acc_pos V c t h0]
      iintro ⟨⟨HS, Ho⟩, Hw, ⟨%d0, H0⟩, ⟨%d1, H1⟩, ⟨%d2, H2⟩⟩
      iapply (body_last c (grid1.coords t) _ _ _ _ _ _ _ _ (blk V c 0 t) (blk V c 1 t) _ _ (fun h => h0 ((isFirst_iff t).mp h)) ((isLast_iff t).mpr h1) Set.univ _)
      isplitl [H0]; · iexact H0
      isplitl [H1]; · iexact H1
      isplitl [H2]; · iexact H2
      isplitl [HS]; · iexact HS
      iintro ⟨H0, H1, H2, HS⟩
      isplitl [HS Ho]
      · isplitl [HS]; · iexact HS
        iexact Ho
      isplitl [Hw]; · iexact Hw
      isplitl [H0]; · iexact H0
      isplitl [H1]; · iexact H1
      iexact H2
    · rw [if_neg h1, acc_pos V c t h0]
      iintro ⟨⟨HS, Ho⟩, Hw, ⟨%d0, H0⟩, ⟨%d1, H1⟩, ⟨%d2, H2⟩⟩
      iapply (body_mid c (grid1.coords t) _ _ _ _ _ _ _ _ (blk V c 0 t) (blk V c 1 t) _ _ (fun h => h0 ((isFirst_iff t).mp h)) (fun h => h1 ((isLast_iff t).mp h)) Set.univ _)
      isplitl [H0]; · iexact H0
      isplitl [H1]; · iexact H1
      isplitl [H2]; · iexact H2
      isplitl [HS]; · iexact HS
      iintro ⟨H0, H1, H2, HS⟩
      isplitl [HS Ho]
      · isplitl [HS]; · iexact HS
        iexact Ho
      isplitl [Hw]; · iexact Hw
      isplitl [H0]; · iexact H0
      isplitl [H1]; · iexact H1
      iexact H2

/-- The program the pipeline runs at point `t` is the body on its buffers. -/
theorem row (t : Fin cfg1.N) : defs₀ (F := F) .tc cfg1.body (cfg1.bodyArgs t (cfg1.slots t)) = bodyAt1 t := by
  unfold defs₀; rw [Defs.onTc_tc]

/-- The body obligation of the second call. -/
theorem obligation (c : Dev nD) : BodyObligation (dat V c) (defs₀ (F := F)) Variants.none () Set.univ := fun t => by
  rw [bigSep_W1, bigSep_W1, row]
  exact triple_restated (body_at V c t) rfl .rfl fun _ => .rfl

/-- The region's entry gives the invariant before the first point. -/
theorem enter (c : Dev nD) : iprop(Pipeline.scopedRest spec1 c ∗ emp) ⊢ (dat V c).Φ 0 := by
  rw [show (dat V c).Φ 0 = inv V c 0 (Nat.zero_le _) from rfl, inv_zero V c 0 _ rfl]
  iintro ⟨H, -⟩
  iapply rest_split c
  iexact H

/-- The invariant after the last point gives the scoped buffers back. -/
theorem leave (c : Dev nD) : (dat V c).Φ (Fin.last cfg1.N) ⊢ iprop(Pipeline.scopedRest spec1 c ∗ emp) := by
  rw [show (dat V c).Φ (Fin.last cfg1.N) = inv V c cfg1.N le_rfl from rfl, inv_pos V c _ _ (by rw [show cfg1.N = 32 from N_1]; omega)]
  iintro ⟨HS, Ho⟩
  isplitl [HS Ho]
  · iapply rest_join c
    isplitl [HS]; · iexists _; iexact HS
    iexact Ho
  iempintro

end Cert.KernelIdeal.Flash

end
-- ==== Proof.MlpBody.lean ====
/- One grid point of the first call (the normalised embedding of each row), run from buffers whose contents are given: the body's triple in its five cases.
   The first ten points accumulate the first product in a scratch buffer; the tenth to the nineteenth accumulate the second product in the output block; the
   tenth first takes the row statistics, and the last one normalises the rows. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.ValueKit
public import Idealize.ShloMosaic.Lib.VecWindow
public import Idealize.ShloMosaic.Lib.Claim

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The point is the first. -/
abbrev isZero (i : grid0.Coords) : Prop := (Scalar.cmpi .ne (Scalar.extui (Scalar.cmpi .eq (BitVec.ofNat 32 (i 0).val) 0#32)) 0#32) = 1#1
/-- The point is not the first. -/
abbrev isPos (i : grid0.Coords) : Prop := (Scalar.cmpi .ne (Scalar.extui (Scalar.cmpi .sgt (BitVec.ofNat 32 (i 0).val) 0#32)) 0#32) = 1#1
/-- The point opens the second half. -/
abbrev isTen (i : grid0.Coords) : Prop := (Scalar.cmpi .ne (Scalar.extui (Scalar.cmpi .eq (BitVec.ofNat 32 (i 0).val) 10#32)) 0#32) = 1#1

/-- The six conditions of the body, at the point `t`. -/
theorem conds : ∀ t : Fin cfg0.N,
    (k0_cond1 (grid0.coords t) = 1#1 ↔ t.val < 10) ∧ (isZero (grid0.coords t) ↔ t.val = 0) ∧ (isPos (grid0.coords t) ↔ 0 < t.val)
      ∧ (isTen (grid0.coords t) ↔ t.val = 10) ∧ (k0_cond5 (grid0.coords t) = 1#1 ↔ 10 ≤ t.val) ∧ (k0_cond6 (grid0.coords t) = 1#1 ↔ t.val = 10)
      ∧ (k0_cond7 (grid0.coords t) = 1#1 ↔ 10 < t.val) ∧ (k0_cond8 (grid0.coords t) = 1#1 ↔ t.val = 19) := by
  have h : ∀ t : Fin grid0.N,
    (k0_cond1 (grid0.coords t) = 1#1 ↔ t.val < 10) ∧ (isZero (grid0.coords t) ↔ t.val = 0) ∧ (isPos (grid0.coords t) ↔ 0 < t.val)
      ∧ (isTen (grid0.coords t) ↔ t.val = 10) ∧ (k0_cond5 (grid0.coords t) = 1#1 ↔ 10 ≤ t.val) ∧ (k0_cond6 (grid0.coords t) = 1#1 ↔ t.val = 10)
      ∧ (k0_cond7 (grid0.coords t) = 1#1 ↔ 10 < t.val) ∧ (k0_cond8 (grid0.coords t) = 1#1 ↔ t.val = 19) := by decide +kernel
  exact h

/-- The columns of the first operand that point `i` of the first half multiplies. -/
def colsE (i : grid0.Coords) (h1 : k0_cond1 i = 1#1) (x : Vec F S64x5120 .f32) : Vec F S64x512 .f32 :=
  View.ld x (Rect.unit (s := S64x5120) (k0_off1 i) S64x512.size (k0_off1_inb i h1))
/-- The columns of a matrix that point `i` of the second half reads. -/
def colsH (i : grid0.Coords) (h5 : k0_cond5 i = 1#1) (x : Vec F S64x5120 .f32) : Vec F S64x512 .f32 :=
  View.ld x (Rect.unit (s := S64x5120) (k0_off2 i) S64x512.size (k0_off2_inb i h5))
/-- The columns of a row that point `i` of the second half reads. -/
def colsR (i : grid0.Coords) (h5 : k0_cond5 i = 1#1) (x : Vec F S1x5120 .f32) : Vec F S1x512 .f32 :=
  View.ld x (Rect.unit (s := S1x5120) (k0_off3 i) S1x512.size (k0_off3_inb i h5))

/-- What point `i` of the second half adds to the output: the activated columns times a block of the second weight. -/
def part (i : grid0.Coords) (h5 : k0_cond5 i = 1#1) (h : Vec F S64x5120 .f32) (b1 : Vec F S1x5120 .f32) (mu isd : Vec F S64x1 .f32)
    (lnw lnb : Vec F S1x5120 .f32) (w2 : Vec F S512x5120 .f32) : Vec F S64x5120 .f32 :=
  k0_pay10 (colsH i h5 h) (colsR i h5 b1) mu isd (colsR i h5 lnw) (colsR i h5 lnb) w2

section Body

variable (c : Dev nD) (i : grid0.Coords) (arg1 : Memref sig .tc .vmem S64x5120 .f32) (harg1 : arg1.IsWhole) (arg2 : Memref sig .tc .vmem S512x5120 .f32) (harg2 : arg2.IsWhole)
  (arg3 : Memref sig .tc .vmem S1x5120 .f32) (harg3 : arg3.IsWhole) (arg4 : Memref sig .tc .vmem S1x5120 .f32) (harg4 : arg4.IsWhole)
  (arg5 : Memref sig .tc .vmem S1x5120 .f32) (harg5 : arg5.IsWhole) (arg6 : Memref sig .tc .vmem S512x5120 .f32) (harg6 : arg6.IsWhole)
  (arg7 : Memref sig .tc .vmem S1x5120 .f32) (harg7 : arg7.IsWhole) (arg8 : Memref sig .tc .vmem S64x5120 .f32) (harg8 : arg8.IsWhole)
  (arg9 : Memref sig .tc .vmem S64x5120 .f32) (harg9 : arg9.IsWhole) (arg10 : Memref sig .tc .vmem S64x1 .f32) (harg10 : arg10.IsWhole)
  (arg11 : Memref sig .tc .vmem S64x1 .f32) (harg11 : arg11.IsWhole)
  (x0 : Vec F S64x5120 .f32) (x1 : Vec F S512x5120 .f32) (x2 x3 x4 : Vec F S1x5120 .f32) (x5 : Vec F S512x5120 .f32) (x6 : Vec F S1x5120 .f32)

/-- The seven inputs at their contents. -/
abbrev inputs : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5 ∗ owns (c : Thread nD τ) arg7 fullShare x6)

/-- Point 0: the scratch buffer is set to the first block product, whatever it held. -/
theorem body_a (h1 : k0_cond1 i = 1#1) (hz : isZero i) (hp : ¬ isPos i) (ht : ¬ isTen i) (h5 : ¬ k0_cond5 i = 1#1) (E : Set ℕ) (K : PUnit → sProp 𝕄) :
    iprop(inputs c arg1 arg2 arg3 arg4 arg5 arg6 arg7 x0 x1 x2 x3 x4 x5 x6
        ∗ (∃ d, owns (c : Thread nD τ) arg9 fullShare d)
        ∗ (iprop(inputs c arg1 arg2 arg3 arg4 arg5 arg6 arg7 x0 x1 x2 x3 x4 x5 x6
            ∗ owns (c : Thread nD τ) arg9 fullShare (k0_pay2 (colsE i h1 x0) x1)) -∗ K ⟨⟩))
      ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K := by
  simp only [cc0__mlp_body_eq_skeleton]; unfold cc0__mlp_body_skel
  simp only [k0_part1_eq_skeleton]
  unfold inputs owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d9, %f9, -, H9⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | sl_exact h1 | sl_exact hz | sl_exact hp | sl_exact ht | sl_exact h5)
  sl_step
  iapply Hk
  isplitl [H1 H2 H3 H4 H5 H6 H7]
  · isplitl [H1]; · iexists _; isplitr; · ipureintro; exact harg1.read_unread _
                    iexact H1
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    iexists _; isplitr; · ipureintro; exact harg7.read_unread _
    iexact H7
  iexists _; isplitr; swap; · iexact H9
  ipureintro
  rw [View.read_writes_full]
  frame_out
  rfl

variable (h : Vec F S64x5120 .f32)

/-- Points 1 to 9: the next block product is added to the scratch buffer. -/
theorem body_b (h1 : k0_cond1 i = 1#1) (hz : ¬ isZero i) (hp : isPos i) (ht : ¬ isTen i) (h5 : ¬ k0_cond5 i = 1#1) (E : Set ℕ) (K : PUnit → sProp 𝕄) :
    iprop(inputs c arg1 arg2 arg3 arg4 arg5 arg6 arg7 x0 x1 x2 x3 x4 x5 x6
        ∗ owns (c : Thread nD τ) arg9 fullShare h
        ∗ (iprop(inputs c arg1 arg2 arg3 arg4 arg5 arg6 arg7 x0 x1 x2 x3 x4 x5 x6
            ∗ owns (c : Thread nD τ) arg9 fullShare (k0_pay3 (colsE i h1 x0) x1 h)) -∗ K ⟨⟩))
      ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K := by
  simp only [cc0__mlp_body_eq_skeleton]; unfold cc0__mlp_body_skel
  simp only [k0_part1_eq_skeleton]
  unfold inputs owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%f9, %hf9, H9⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9
  sl_exec (disch := first | sl_exact h1 | sl_exact hz | sl_exact hp | sl_exact ht | sl_exact h5)
  sl_step
  iapply Hk
  isplitl [H1 H2 H3 H4 H5 H6 H7]
  · isplitl [H1]; · iexists _; isplitr; · ipureintro; exact harg1.read_unread _
                    iexact H1
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    iexists _; isplitr; · ipureintro; exact harg7.read_unread _
    iexact H7
  iexists _; isplitr; swap; · iexact H9
  ipureintro
  rw [View.read_writes_full]
  frame_out
  rfl

/-- Point 10: the row statistics are taken, and the output block is set to the first block of the second product. -/
theorem body_c (h1 : ¬ k0_cond1 i = 1#1) (ht : isTen i) (h5 : k0_cond5 i = 1#1) (h6 :  k0_cond6 i = 1#1) (h7 : ¬ k0_cond7 i = 1#1) (h8 : ¬ k0_cond8 i = 1#1) (E : Set ℕ) (K : PUnit → sProp 𝕄) :
    iprop(inputs c arg1 arg2 arg3 arg4 arg5 arg6 arg7 x0 x1 x2 x3 x4 x5 x6
        ∗ (∃ d, owns (c : Thread nD τ) arg8 fullShare d) ∗ owns (c : Thread nD τ) arg9 fullShare h ∗ (∃ d, owns (c : Thread nD τ) arg10 fullShare d) ∗ (∃ d, owns (c : Thread nD τ) arg11 fullShare d)
        ∗ (iprop(inputs c arg1 arg2 arg3 arg4 arg5 arg6 arg7 x0 x1 x2 x3 x4 x5 x6
            ∗ owns (c : Thread nD τ) arg8 fullShare (part i h5 h x2 (k0_pay6 h x2) (k0_pay7 h x2) x3 x4 x5) ∗ owns (c : Thread nD τ) arg9 fullShare h ∗ owns (c : Thread nD τ) arg10 fullShare (k0_pay6 h x2) ∗ owns (c : Thread nD τ) arg11 fullShare (k0_pay7 h x2)) -∗ K ⟨⟩))
      ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K := by
  simp only [cc0__mlp_body_eq_skeleton]; unfold cc0__mlp_body_skel
  simp only [k0_part1_eq_skeleton]
  unfold inputs owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%f9, %hf9, H9⟩, ⟨%d10, %f10, -, H10⟩, ⟨%d11, %f11, -, H11⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg9.eq_unread hf9
  sl_exec (disch := first | sl_exact h1 | sl_exact ht | sl_exact h5 | sl_exact h6 | sl_exact h7 | sl_exact h8)
  sl_step
  iapply Hk
  isplitl [H1 H2 H3 H4 H5 H6 H7]
  · isplitl [H1]; · iexists _; isplitr; · ipureintro; exact harg1.read_unread _
                    iexact H1
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    iexists _; isplitr; · ipureintro; exact harg7.read_unread _
    iexact H7
  isplitl [H8]
  · iexists _; isplitr; swap; · iexact H8
    ipureintro
    rw [View.read_writes_full]
    frame_out
    rfl
  isplitl [H9]
  · iexists _; isplitr; · ipureintro; exact harg9.read_unread _
    iexact H9
  isplitl [H10]
  · iexists _; isplitr; swap; · iexact H10
    ipureintro
    unfold body_c.sl.H10_1
    rw [View.read_writes_full]
    frame_out
  iexists _; isplitr; swap; · iexact H11
  ipureintro
  unfold body_c.sl.H11_1
  rw [View.read_writes_full]
  frame_out

variable (mu isd : Vec F S64x1 .f32) (s : Vec F S64x5120 .f32)

/-- Points 11 to 18: the next block of the second product is added to the output block. -/
theorem body_d (h1 : ¬ k0_cond1 i = 1#1) (ht : ¬ isTen i) (h5 : k0_cond5 i = 1#1) (h6 : ¬ k0_cond6 i = 1#1) (h7 :  k0_cond7 i = 1#1) (h8 : ¬ k0_cond8 i = 1#1) (E : Set ℕ) (K : PUnit → sProp 𝕄) :
    iprop(inputs c arg1 arg2 arg3 arg4 arg5 arg6 arg7 x0 x1 x2 x3 x4 x5 x6
        ∗ owns (c : Thread nD τ) arg8 fullShare s ∗ owns (c : Thread nD τ) arg9 fullShare h ∗ owns (c : Thread nD τ) arg10 fullShare mu ∗ owns (c : Thread nD τ) arg11 fullShare isd
        ∗ (iprop(inputs c arg1 arg2 arg3 arg4 arg5 arg6 arg7 x0 x1 x2 x3 x4 x5 x6
            ∗ owns (c : Thread nD τ) arg8 fullShare (k0_pay8 (part i h5 h x2 mu isd x3 x4 x5) s) ∗ owns (c : Thread nD τ) arg9 fullShare h ∗ owns (c : Thread nD τ) arg10 fullShare mu ∗ owns (c : Thread nD τ) arg11 fullShare isd) -∗ K ⟨⟩))
      ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K := by
  simp only [cc0__mlp_body_eq_skeleton]; unfold cc0__mlp_body_skel
  simp only [k0_part1_eq_skeleton]
  unfold inputs owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%f8, %hf8, H8⟩, ⟨%f9, %hf9, H9⟩, ⟨%f10, %hf10, H10⟩, ⟨%f11, %hf11, H11⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  obtain rfl := harg9.eq_unread hf9
  obtain rfl := harg10.eq_unread hf10
  obtain rfl := harg11.eq_unread hf11
  sl_exec (disch := first | sl_exact h1 | sl_exact ht | sl_exact h5 | sl_exact h6 | sl_exact h7 | sl_exact h8)
  sl_step
  iapply Hk
  isplitl [H1 H2 H3 H4 H5 H6 H7]
  · isplitl [H1]; · iexists _; isplitr; · ipureintro; exact harg1.read_unread _
                    iexact H1
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    iexists _; isplitr; · ipureintro; exact harg7.read_unread _
    iexact H7
  isplitl [H8]
  · iexists _; isplitr; swap; · iexact H8
    ipureintro
    rw [View.read_writes_full]
    frame_out
    rfl
  isplitl [H9]
  · iexists _; isplitr; · ipureintro; exact harg9.read_unread _
    iexact H9
  isplitl [H10]
  · iexists _; isplitr; · ipureintro; exact harg10.read_unread _
    iexact H10
  iexists _; isplitr; · ipureintro; exact harg11.read_unread _
  iexact H11

/-- Point 19: the last block of the second product is added, and the rows of the block are normalised. -/
theorem body_e (h1 : ¬ k0_cond1 i = 1#1) (ht : ¬ isTen i) (h5 : k0_cond5 i = 1#1) (h6 : ¬ k0_cond6 i = 1#1) (h7 :  k0_cond7 i = 1#1) (h8 :  k0_cond8 i = 1#1) (E : Set ℕ) (K : PUnit → sProp 𝕄) :
    iprop(inputs c arg1 arg2 arg3 arg4 arg5 arg6 arg7 x0 x1 x2 x3 x4 x5 x6
        ∗ owns (c : Thread nD τ) arg8 fullShare s ∗ owns (c : Thread nD τ) arg9 fullShare h ∗ owns (c : Thread nD τ) arg10 fullShare mu ∗ owns (c : Thread nD τ) arg11 fullShare isd
        ∗ (iprop(inputs c arg1 arg2 arg3 arg4 arg5 arg6 arg7 x0 x1 x2 x3 x4 x5 x6
            ∗ owns (c : Thread nD τ) arg8 fullShare (k0_pay9 x0 (k0_pay8 (part i h5 h x2 mu isd x3 x4 x5) s) x6) ∗ owns (c : Thread nD τ) arg9 fullShare h ∗ owns (c : Thread nD τ) arg10 fullShare mu ∗ owns (c : Thread nD τ) arg11 fullShare isd) -∗ K ⟨⟩))
      ⊢ wp frame (wpE (defs₀ (F := F)) Variants.none c none) E (cc0__mlp_body i arg1 harg1 arg2 harg2 arg3 harg3 arg4 harg4 arg5 harg5 arg6 harg6 arg7 harg7 arg8 harg8 arg9 harg9 arg10 harg10 arg11 harg11) K := by
  simp only [cc0__mlp_body_eq_skeleton]; unfold cc0__mlp_body_skel
  simp only [k0_part1_eq_skeleton]
  unfold inputs owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%f8, %hf8, H8⟩, ⟨%f9, %hf9, H9⟩, ⟨%f10, %hf10, H10⟩, ⟨%f11, %hf11, H11⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  obtain rfl := harg9.eq_unread hf9
  obtain rfl := harg10.eq_unread hf10
  obtain rfl := harg11.eq_unread hf11
  sl_exec (disch := first | sl_exact h1 | sl_exact ht | sl_exact h5 | sl_exact h6 | sl_exact h7 | sl_exact h8)
  sl_step
  iapply Hk
  isplitl [H1 H2 H3 H4 H5 H6 H7]
  · isplitl [H1]; · iexists _; isplitr; · ipureintro; exact harg1.read_unread _
                    iexact H1
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    iexists _; isplitr; · ipureintro; exact harg7.read_unread _
    iexact H7
  isplitl [H8]
  · iexists _; isplitr; swap; · iexact H8
    ipureintro
    rw [View.read_writes_full]
    frame_out
    rfl
  isplitl [H9]
  · iexists _; isplitr; · ipureintro; exact harg9.read_unread _
    iexact H9
  isplitl [H10]
  · iexists _; isplitr; · ipureintro; exact harg10.read_unread _
    iexact H10
  iexists _; isplitr; · ipureintro; exact harg11.read_unread _
  iexact H11

end Body

end Cert.KernelIdeal.Mlp

end
-- ==== Proof.MlpRegion.lean ====
/- The first call over its whole grid: what the hidden rows, their mean and inverse deviation and the output block hold after each point, the
   proof data of its pipeline from any contents of the arrays, and the body at every point. -/
module

public import proofs.«01_k».proof.Proof.MlpBody

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Dev nD → Valuation τ sig (Elt F))

/-- Window `w`'s block at point `t`, of its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The embeddings as point `t` finds it. -/
abbrev emb (c : Dev nD) (t : Fin cfg0.N) : Vec F S64x5120 .f32 := blk V c 0 t
/-- The block of the first weight as point `t` finds it. -/
abbrev w1 (c : Dev nD) (t : Fin cfg0.N) : Vec F S512x5120 .f32 := blk V c 1 t
/-- The first bias as point `t` finds it. -/
abbrev b1 (c : Dev nD) (t : Fin cfg0.N) : Vec F S1x5120 .f32 := blk V c 2 t
/-- The scale of the normalisation as point `t` finds it. -/
abbrev lnw (c : Dev nD) (t : Fin cfg0.N) : Vec F S1x5120 .f32 := blk V c 3 t
/-- The shift of the normalisation as point `t` finds it. -/
abbrev lnb (c : Dev nD) (t : Fin cfg0.N) : Vec F S1x5120 .f32 := blk V c 4 t
/-- The block of the second weight as point `t` finds it. -/
abbrev w2 (c : Dev nD) (t : Fin cfg0.N) : Vec F S512x5120 .f32 := blk V c 5 t
/-- The second bias as point `t` finds it. -/
abbrev b2 (c : Dev nD) (t : Fin cfg0.N) : Vec F S1x5120 .f32 := blk V c 6 t

/-- The hidden rows (before their bias) after point `n`: block products accumulated over the first ten points. -/
def hid (c : Dev nD) : (n : ℕ) → n < cfg0.N → Vec F S64x5120 .f32
  | 0, h => if h1 : k0_cond1 (grid0.coords ⟨0, h⟩) = 1#1 then k0_pay2 (colsE (grid0.coords ⟨0, h⟩) h1 (emb V c ⟨0, h⟩)) (w1 V c ⟨0, h⟩) else emb V c ⟨0, h⟩
  | n + 1, h => if h1 : k0_cond1 (grid0.coords ⟨n + 1, h⟩) = 1#1
      then k0_pay3 (colsE (grid0.coords ⟨n + 1, h⟩) h1 (emb V c ⟨n + 1, h⟩)) (w1 V c ⟨n + 1, h⟩) (hid c n (Nat.lt_of_succ_lt h))
      else hid c n (Nat.lt_of_succ_lt h)

/-- The step before a step is a step. -/
theorem pred_lt (t : Fin cfg0.N) : t.val - 1 < cfg0.N := Nat.lt_of_le_of_lt (Nat.sub_le _ _) t.isLt

/-- At the first step the hidden scratch is the first partial product. -/
theorem hid_zero (c : Dev nD) (t : Fin cfg0.N) (ht : t.val = 0) (h1 : k0_cond1 (grid0.coords t) = 1#1) :
    hid V c t.val t.isLt = k0_pay2 (colsE (grid0.coords t) h1 (emb V c t)) (w1 V c t) := by
  obtain ⟨n, hn⟩ := t; subst ht; exact dif_pos h1

/-- At a later step of the first half the partial product is added to the hidden scratch. -/
theorem hid_step (c : Dev nD) (t : Fin cfg0.N) (ht : t.val ≠ 0) (h1 : k0_cond1 (grid0.coords t) = 1#1) :
    hid V c t.val t.isLt = k0_pay3 (colsE (grid0.coords t) h1 (emb V c t)) (w1 V c t) (hid V c (t.val - 1) (pred_lt t)) := by
  obtain ⟨n, hn⟩ := t
  cases n with
  | zero => exact absurd rfl ht
  | succ n => exact dif_pos h1

/-- In the second half the hidden scratch stays. -/
theorem hid_keep (c : Dev nD) (t : Fin cfg0.N) (ht : t.val ≠ 0) (h1 : ¬ k0_cond1 (grid0.coords t) = 1#1) :
    hid V c t.val t.isLt = hid V c (t.val - 1) (pred_lt t) := by
  obtain ⟨n, hn⟩ := t
  cases n with
  | zero => exact absurd rfl ht
  | succ n => exact dif_neg h1

/-- The point the second half starts at. -/
abbrev ten : Fin cfg0.N := ⟨10, by rw [show cfg0.N = 20 from N_0]; decide⟩
/-- The point before it. -/
abbrev nine : Fin cfg0.N := ⟨9, by rw [show cfg0.N = 20 from N_0]; decide⟩

/-- The rows' mean, as point 10 computes it. -/
def mu (c : Dev nD) : Vec F S64x1 .f32 := k0_pay6 (hid V c 9 nine.isLt) (b1 V c ten)
/-- The rows' inverse deviation, as point 10 computes it. -/
def isd (c : Dev nD) : Vec F S64x1 .f32 := k0_pay7 (hid V c 9 nine.isLt) (b1 V c ten)

/-- What point `t` of the second half adds to the output. -/
abbrev add (c : Dev nD) (t : Fin cfg0.N) (h5 : k0_cond5 (grid0.coords t) = 1#1) : Vec F S64x5120 .f32 :=
  part (grid0.coords t) h5 (hid V c (t.val - 1) (pred_lt t)) (b1 V c t) (mu V c) (isd V c) (lnw V c t) (lnb V c t) (w2 V c t)

/-- The output's accumulator after point `n`. -/
def sum (c : Dev nD) : (n : ℕ) → n < cfg0.N → Vec F S64x5120 .f32
  | 0, h => emb V c ⟨0, h⟩
  | n + 1, h => if h5 : k0_cond5 (grid0.coords ⟨n + 1, h⟩) = 1#1
      then if n + 1 = 10 then add V c ⟨n + 1, h⟩ h5 else k0_pay8 (add V c ⟨n + 1, h⟩ h5) (sum c n (Nat.lt_of_succ_lt h))
      else sum c n (Nat.lt_of_succ_lt h)

/-- At the second half's first step the output's sum is the first partial product. -/
theorem sum_ten (c : Dev nD) (t : Fin cfg0.N) (ht : t.val = 10) (h5 : k0_cond5 (grid0.coords t) = 1#1) :
    sum V c t.val t.isLt = add V c t h5 := by
  obtain ⟨n, hn⟩ := t
  cases n with
  | zero => exact absurd ht (by simp)
  | succ n => exact (dif_pos h5).trans (if_pos ht)

/-- At a later step of the second half the partial product is added to the output's sum. -/
theorem sum_step (c : Dev nD) (t : Fin cfg0.N) (ht : 10 < t.val) (h5 : k0_cond5 (grid0.coords t) = 1#1) :
    sum V c t.val t.isLt = k0_pay8 (add V c t h5) (sum V c (t.val - 1) (pred_lt t)) := by
  obtain ⟨n, hn⟩ := t
  cases n with
  | zero => exact absurd ht (by simp)
  | succ n => exact (dif_pos h5).trans (if_neg (by dsimp only at ht; omega))

/-- What the output block holds after point `t` of the second half: the accumulator, finished at the last point. -/
def left (c : Dev nD) (t : Fin cfg0.N) : Vec F S64x5120 .f32 :=
  if t.val = 19 then k0_pay9 (emb V c t) (sum V c t.val t.isLt) (b2 V c t) else sum V c t.val t.isLt

/-- The hidden rows' buffer. -/
abbrev hidM : Memref sig .tc .vmem S64x5120 .f32 := Memref.whole cc0_scratch0
/-- The means' buffer. -/
abbrev muM : Memref sig .tc .vmem S64x1 .f32 := Memref.whole cc0_scratch1
/-- The inverse deviations' buffer. -/
abbrev isdM : Memref sig .tc .vmem S64x1 .f32 := Memref.whole cc0_scratch2

/-- A buffer held at some contents. -/
abbrev anyAt (c : Dev nD) (b : Ref sig .tc) : sProp 𝕄 := iprop(∃ f : Buf (Elt F) ((c : Thread nD τ).loc b), ((c : Thread nD τ).loc b) ↦{fullShare} f)

/-- The scoped buffers the first call does not use, each at some contents. -/
def others (c : Dev nD) : sProp 𝕄 :=
  iprop(anyAt c cc1_stg0_0 ∗ anyAt c cc1_stg1_0 ∗ anyAt c cc1_stg1_1 ∗ anyAt c cc1_stg2_0 ∗ anyAt c cc1_scratch0)

/-- The scoped buffers no window of the first call stages: its three scratch buffers and the others. -/
theorem rest_eq (c : Dev nD) :
    (Pipeline.scopedRest spec0 c : sProp 𝕄) = iprop((∃ d, owns (c : Thread nD τ) hidM fullShare d) ∗ (∃ d, owns (c : Thread nD τ) muM fullShare d)
      ∗ (∃ d, owns (c : Thread nD τ) isdM fullShare d) ∗ others c) := by
  rw [scopedRest0_eq]; unfold others; simp only [hidM, muM, isdM, owns_whole]; rfl

/-- The invariant before point `n`: the hidden rows at what the point before left, and after point 10 the mean and the inverse deviation. -/
def inv (c : Dev nD) (n : ℕ) (h : n ≤ cfg0.N) : sProp 𝕄 :=
  iprop((if h0 : n = 0 then iprop(∃ d, owns (c : Thread nD τ) hidM fullShare d) else owns (c : Thread nD τ) hidM fullShare (hid V c (n - 1) (by omega)))
    ∗ (if n ≤ 10 then iprop(∃ d, owns (c : Thread nD τ) muM fullShare d) else owns (c : Thread nD τ) muM fullShare (mu V c))
    ∗ (if n ≤ 10 then iprop(∃ d, owns (c : Thread nD τ) isdM fullShare d) else owns (c : Thread nD τ) isdM fullShare (isd V c))
    ∗ others c)

/-- Before the first step the scratch arrays hold anything. -/
theorem inv_zero (c : Dev nD) (n : ℕ) (h : n ≤ cfg0.N) (hn : n = 0) :
    inv V c n h = iprop((∃ d, owns (c : Thread nD τ) hidM fullShare d) ∗ (∃ d, owns (c : Thread nD τ) muM fullShare d)
      ∗ (∃ d, owns (c : Thread nD τ) isdM fullShare d) ∗ others c) := by
  unfold inv; rw [dif_pos hn, if_pos (by omega), if_pos (by omega)]

/-- Before a step of the first half, and before the second half, the hidden scratch holds the products so far. -/
theorem inv_first (c : Dev nD) (n : ℕ) (h : n ≤ cfg0.N) (h0 : n ≠ 0) (hn : n ≤ 10) :
    inv V c n h = iprop(owns (c : Thread nD τ) hidM fullShare (hid V c (n - 1) (by omega)) ∗ (∃ d, owns (c : Thread nD τ) muM fullShare d)
      ∗ (∃ d, owns (c : Thread nD τ) isdM fullShare d) ∗ others c) := by
  unfold inv; rw [dif_neg h0, if_pos hn, if_pos hn]

/-- Inside the second half the scratch arrays hold the hidden values and the rows' statistics. -/
theorem inv_second (c : Dev nD) (n : ℕ) (h : n ≤ cfg0.N) (hn : 10 < n) :
    inv V c n h = iprop(owns (c : Thread nD τ) hidM fullShare (hid V c (n - 1) (by omega)) ∗ owns (c : Thread nD τ) muM fullShare (mu V c)
      ∗ owns (c : Thread nD τ) isdM fullShare (isd V c) ∗ others c) := by
  unfold inv; rw [dif_neg (by omega), if_neg (by omega), if_neg (by omega)]

/-- After a step of the first half: the hidden scratch with that step's product. -/
theorem inv_succ_first (c : Dev nD) (n : ℕ) (h : n < cfg0.N) (hn : n < 10) :
    inv V c (n + 1) h = iprop(owns (c : Thread nD τ) hidM fullShare (hid V c n h) ∗ (∃ d, owns (c : Thread nD τ) muM fullShare d)
      ∗ (∃ d, owns (c : Thread nD τ) isdM fullShare d) ∗ others c) := inv_first V c (n + 1) h (Nat.succ_ne_zero _) hn

/-- After a step of the second half: the hidden values and the rows' statistics. -/
theorem inv_succ_second (c : Dev nD) (n : ℕ) (h : n < cfg0.N) (hn : 10 ≤ n) :
    inv V c (n + 1) h = iprop(owns (c : Thread nD τ) hidM fullShare (hid V c n h) ∗ owns (c : Thread nD τ) muM fullShare (mu V c)
      ∗ owns (c : Thread nD τ) isdM fullShare (isd V c) ∗ others c) := inv_second V c (n + 1) h (by omega)

/-- The proof data of the first call's pipeline, from the contents `V` of the arrays. -/
def dat (c : Dev nD) : Dat τ (Elt F) Unit ℕ (UR sig nD τ) ℕ cfg0 c where
  A w := V c (Proc.devRef .tc (Pipeline.arrRef spec0 w))
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => left V c t
  Φ t := inv V c t.val (Nat.le_of_lt_succ t.isLt)
  q _ := fullShare
  owed _ := 0

/-- Each array starts as the launch finds it. -/
theorem dat_A (c : Dev nD) (w : Fin cfg0.W) : (dat V c).A w = V c (Proc.devRef .tc (Pipeline.arrRef spec0 w)) := by dsimp only [dat]
/-- The embeddings' window keeps its block. -/
theorem after_emb (c : Dev nD) (t : Fin cfg0.N) : (dat V c).after 0 t = blk V c 0 t := by dsimp only [dat]
/-- The first weight's window keeps its block. -/
theorem after_w1 (c : Dev nD) (t : Fin cfg0.N) : (dat V c).after 1 t = blk V c 1 t := by dsimp only [dat]
/-- The first bias's window keeps its block. -/
theorem after_b1 (c : Dev nD) (t : Fin cfg0.N) : (dat V c).after 2 t = blk V c 2 t := by dsimp only [dat]
/-- The scale's window keeps its block. -/
theorem after_lnw (c : Dev nD) (t : Fin cfg0.N) : (dat V c).after 3 t = blk V c 3 t := by dsimp only [dat]
/-- The shift's window keeps its block. -/
theorem after_lnb (c : Dev nD) (t : Fin cfg0.N) : (dat V c).after 4 t = blk V c 4 t := by dsimp only [dat]
/-- The second weight's window keeps its block. -/
theorem after_w2 (c : Dev nD) (t : Fin cfg0.N) : (dat V c).after 5 t = blk V c 5 t := by dsimp only [dat]
/-- The second bias's window keeps its block. -/
theorem after_b2 (c : Dev nD) (t : Fin cfg0.N) : (dat V c).after 6 t = blk V c 6 t := by dsimp only [dat]
/-- The output window ends a step with what the step leaves. -/
theorem after_out (c : Dev nD) (t : Fin cfg0.N) : (dat V c).after 7 t = left V c t := by dsimp only [dat]
/-- A step finds the embeddings in their window. -/
theorem before_emb (c : Dev nD) (t : Fin cfg0.N) (d) : (dat V c).before 0 t d = blk V c 0 t :=
  ((dat V c).before_in_eq_fetched 0 rfl (fun _ => rfl) (fun _ _ _ => rfl) (fun t => by rw [after_emb]; unfold Dat.blockOf blk; rw [dat_A]; try rfl) t d).trans
    (by unfold Dat.fetched Dat.blockOf blk; rw [dat_A]; try rfl)
/-- A step finds its block of the first weight in its window. -/
theorem before_w1 (c : Dev nD) (t : Fin cfg0.N) (d) : (dat V c).before 1 t d = blk V c 1 t :=
  ((dat V c).before_in_eq_fetched 1 rfl (fun _ => rfl) (fun _ _ _ => rfl) (fun t => by rw [after_w1]; unfold Dat.blockOf blk; rw [dat_A]; try rfl) t d).trans
    (by unfold Dat.fetched Dat.blockOf blk; rw [dat_A]; try rfl)
/-- A step finds the first bias in its window. -/
theorem before_b1 (c : Dev nD) (t : Fin cfg0.N) (d) : (dat V c).before 2 t d = blk V c 2 t :=
  ((dat V c).before_in_eq_fetched 2 rfl (fun _ => rfl) (fun _ _ _ => rfl) (fun t => by rw [after_b1]; unfold Dat.blockOf blk; rw [dat_A]; try rfl) t d).trans
    (by unfold Dat.fetched Dat.blockOf blk; rw [dat_A]; try rfl)
/-- A step finds the scale in its window. -/
theorem before_lnw (c : Dev nD) (t : Fin cfg0.N) (d) : (dat V c).before 3 t d = blk V c 3 t :=
  ((dat V c).before_in_eq_fetched 3 rfl (fun _ => rfl) (fun _ _ _ => rfl) (fun t => by rw [after_lnw]; unfold Dat.blockOf blk; rw [dat_A]; try rfl) t d).trans
    (by unfold Dat.fetched Dat.blockOf blk; rw [dat_A]; try rfl)
/-- A step finds the shift in its window. -/
theorem before_lnb (c : Dev nD) (t : Fin cfg0.N) (d) : (dat V c).before 4 t d = blk V c 4 t :=
  ((dat V c).before_in_eq_fetched 4 rfl (fun _ => rfl) (fun _ _ _ => rfl) (fun t => by rw [after_lnb]; unfold Dat.blockOf blk; rw [dat_A]; try rfl) t d).trans
    (by unfold Dat.fetched Dat.blockOf blk; rw [dat_A]; try rfl)
/-- A step finds its block of the second weight in its window. -/
theorem before_w2 (c : Dev nD) (t : Fin cfg0.N) (d) : (dat V c).before 5 t d = blk V c 5 t :=
  ((dat V c).before_in_eq_fetched 5 rfl (fun _ => rfl) (fun _ _ _ => rfl) (fun t => by rw [after_w2]; unfold Dat.blockOf blk; rw [dat_A]; try rfl) t d).trans
    (by unfold Dat.fetched Dat.blockOf blk; rw [dat_A]; try rfl)
/-- A step finds the second bias in its window. -/
theorem before_b2 (c : Dev nD) (t : Fin cfg0.N) (d) : (dat V c).before 6 t d = blk V c 6 t :=
  ((dat V c).before_in_eq_fetched 6 rfl (fun _ => rfl) (fun _ _ _ => rfl) (fun t => by rw [after_b2]; unfold Dat.blockOf blk; rw [dat_A]; try rfl) t d).trans
    (by unfold Dat.fetched Dat.blockOf blk; rw [dat_A]; try rfl)

/-- In the first half the body stores nothing to the output block. -/
theorem idle_first (t : Fin cfg0.N) (h : t.val < 10) : cfg0.idle 7 (cfg0.grid.coords t) = true := by
  have h5 : k0_cond5 (grid0.coords t) ≠ 1#1 := fun e => by have := (conds t).2.2.2.2.1.mp e; omega
  show idle0 7 (grid0.coords t) = true
  simp [idle0, h5]

/-- In the second half it does. -/
theorem idle_second (t : Fin cfg0.N) (h : 10 ≤ t.val) : cfg0.idle 7 (cfg0.grid.coords t) = false := by
  have h5 : k0_cond5 (grid0.coords t) = 1#1 := (conds t).2.2.2.2.1.mpr h
  show idle0 7 (grid0.coords t) = false
  by_cases h6 : t.val = 10
  · have := (conds t).2.2.2.2.2.1.mpr h6
    simp [idle0, h5, this]
  · have := (conds t).2.2.2.2.2.2.1.mpr (by omega : 10 < t.val)
    simp [idle0, h5, this]

/-- Before the last point the output block is not written back. -/
theorem noflush (t : Fin cfg0.N) (h : t.val ≠ 19) : (cfg0.win 7).flush t = false :=
  Bool.eq_false_iff.mpr fun e => by
    have := (flush0_7 t).mp e
    have hN : t.val < 20 := lt_of_lt_of_eq t.isLt (show cfg0.N = 20 from N_0)
    omega

/-- After point 10 the output's buffer holds the accumulator of the point before. -/
theorem before_out (c : Dev nD) (t : Fin cfg0.N) (ht : 10 < t.val) (d) :
    (dat V c).before 7 t d = sum V c (t.val - 1) (pred_lt t) := by
  have hN : t.val < 20 := lt_of_lt_of_eq t.isLt (show cfg0.N = 20 from N_0)
  rw [Dat.before_of_pos _ 7 t (by omega) ((cfg0.win 7).fetch_out rfl t), noflush ⟨t.val - 1, pred_lt t⟩ (by dsimp only; omega), if_neg Bool.false_ne_true]
  unfold Dat.left
  rw [idle_second ⟨t.val - 1, pred_lt t⟩ (by dsimp only; omega)]
  unfold Dat.kept
  dsimp only
  rw [Pipeline.fill_of_clip_none (cfg := cfg0) 7 _ (fun _ => rfl) d ((dat V c).after 7 ⟨t.val - 1, pred_lt t⟩), Window.fill_cut, after_out]
  unfold left; rw [if_neg (by dsimp only; omega)]

/-- What the body finds at point `t`. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- What the body leaves at point `t`. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ (dat V c).leavesExact 7 t)

set_option maxHeartbeats 8000000 in
/-- The body at any point, by its five cases. -/
theorem body_at (c : Dev nD) (t : Fin cfg0.N) :
    bodyPre V c t ⊢ wp frame (wpE (defs₀ (F := F)) Variants.none c none) Set.univ (bodyAt0 t) (fun _ => bodyPost V c t) := by
  obtain ⟨k1, kz, kp, kt, k5, k6, k7, k8⟩ := conds t
  have hN : t.val < 20 := lt_of_lt_of_eq t.isLt (show cfg0.N = 20 from N_0)
  unfold bodyPre bodyPost bodyAt0
  simp only [before_emb, before_w1, before_b1, before_lnw, before_lnb, before_w2, before_b2]
  rw [show (dat V c).owesAt () t.succ = (dat V c).owesAt () t.castSucc from rfl, after_emb, after_w1, after_b1, after_lnw, after_lnb, after_w2, after_b2,
    show (dat V c).Φ t.succ = inv V c (t.val + 1) t.isLt from rfl,
    show (dat V c).Φ t.castSucc = inv V c t.val (Nat.le_of_lt t.isLt) from by dsimp only [dat]; exact Pipeline.Dat.Φ_castSucc (inv V c) t]
  by_cases hlt : t.val < 10
  · have h1 := k1.mpr hlt
    rw [Dat.leavesExact_idle _ 7 t (idle_first t hlt) (noflush t (by omega)), inv_succ_first V c t.val t.isLt hlt]
    by_cases h0 : t.val = 0
    · rw [inv_zero V c _ _ h0, hid_zero V c t h0 h1]
      iintro ⟨⟨HS, HM, HI, Ho⟩, Hw, ⟨%d0, H0⟩, ⟨%d1, H1⟩, ⟨%d2, H2⟩, ⟨%d3, H3⟩, ⟨%d4, H4⟩, ⟨%d5, H5⟩, ⟨%d6, H6⟩, ⟨%d7, H7⟩⟩
      iapply (body_a c (grid0.coords t) _ _ _ _ _ _ _ _ _ _ _ _ _ _ _ _ _ _ _ _ _ _ (blk V c 0 t) (blk V c 1 t) (blk V c 2 t) (blk V c 3 t) (blk V c 4 t) (blk V c 5 t) (blk V c 6 t) h1 (kz.mpr h0) (fun e => by have := kp.mp e; omega) (fun e => by have := kt.mp e; omega) (fun e => by have := k5.mp e; omega) Set.univ _)
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [HS]; · iexact HS
      iintro ⟨⟨H0, H1, H2, H3, H4, H5, H6⟩, HS⟩
      isplitl [HS HM HI Ho]
      · isplitl [HS]; · iexact HS
        isplitl [HM]; · iexact HM
        isplitl [HI]; · iexact HI
        iexact Ho
      isplitl [Hw]; · iexact Hw
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [inv_first V c _ _ h0 (by omega), hid_step V c t h0 h1]
      iintro ⟨⟨HS, HM, HI, Ho⟩, Hw, ⟨%d0, H0⟩, ⟨%d1, H1⟩, ⟨%d2, H2⟩, ⟨%d3, H3⟩, ⟨%d4, H4⟩, ⟨%d5, H5⟩, ⟨%d6, H6⟩, ⟨%d7, H7⟩⟩
      iapply (body_b c (grid0.coords t) _ _ _ _ _ _ _ _ _ _ _ _ _ _ _ _ _ _ _ _ _ _ (blk V c 0 t) (blk V c 1 t) (blk V c 2 t) (blk V c 3 t) (blk V c 4 t) (blk V c 5 t) (blk V c 6 t) (hid V c (t.val - 1) (pred_lt t)) h1 (fun e => by have := kz.mp e; omega) (kp.mpr (by omega)) (fun e => by have := kt.mp e; omega) (fun e => by have := k5.mp e; omega) Set.univ _)
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [HS]; · iexact HS
      iintro ⟨⟨H0, H1, H2, H3, H4, H5, H6⟩, HS⟩
      isplitl [HS HM HI Ho]
      · isplitl [HS]; · iexact HS
        isplitl [HM]; · iexact HM
        isplitl [HI]; · iexact HI
        iexact Ho
      isplitl [Hw]; · iexact Hw
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have h1 : ¬ k0_cond1 (grid0.coords t) = 1#1 := fun e => hlt (k1.mp e)
    have h5 := k5.mpr (by omega)
    rw [inv_succ_second V c t.val t.isLt (by omega), show (dat V c).leavesExact 7 t = owns (c : Thread nD τ) (st0_7 t) fullShare (left V c t) from by
      unfold Dat.leavesExact; rw [idle_second t (by omega), after_out]]
    rw [hid_keep V c t (by omega) h1]
    unfold left
    by_cases h10 : t.val = 10
    · rw [inv_first V c _ _ (by omega) (by omega), if_neg (by omega), sum_ten V c t h10 h5]
      obtain rfl : t = ten := Fin.ext h10
      iintro ⟨⟨HS, HM, HI, Ho⟩, Hw, ⟨%d0, H0⟩, ⟨%d1, H1⟩, ⟨%d2, H2⟩, ⟨%d3, H3⟩, ⟨%d4, H4⟩, ⟨%d5, H5⟩, ⟨%d6, H6⟩, ⟨%d7, H7⟩⟩
      iapply (body_c c (grid0.coords ten) _ _ _ _ _ _ _ _ _ _ _ _ _ _ _ _ _ _ _ _ _ _ (blk V c 0 ten) (blk V c 1 ten) (blk V c 2 ten) (blk V c 3 ten) (blk V c 4 ten) (blk V c 5 ten) (blk V c 6 ten) (hid V c ((ten).val - 1) (pred_lt ten)) h1 (kt.mpr h10) h5 (k6.mpr h10) (fun e => by have := k7.mp e; omega) (fun e => by have := k8.mp e; omega) Set.univ _)
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexists _; iexact H7
      isplitl [HS]; · iexact HS
      isplitl [HM]; · iexact HM
      isplitl [HI]; · iexact HI
      iintro ⟨⟨H0, H1, H2, H3, H4, H5, H6⟩, H7, HS, HM, HI⟩
      isplitl [HS HM HI Ho]
      · isplitl [HS]; · iexact HS
        isplitl [HM]; · iexact HM
        isplitl [HI]; · iexact HI
        iexact Ho
      isplitl [Hw]; · iexact Hw
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [inv_second V c _ _ (by omega), sum_step V c t (by omega) h5]
      simp only [before_out V c t (by omega)]
      by_cases h19 : t.val = 19
      · rw [if_pos h19]
        iintro ⟨⟨HS, HM, HI, Ho⟩, Hw, ⟨%d0, H0⟩, ⟨%d1, H1⟩, ⟨%d2, H2⟩, ⟨%d3, H3⟩, ⟨%d4, H4⟩, ⟨%d5, H5⟩, ⟨%d6, H6⟩, ⟨%d7, H7⟩⟩
        iapply (body_e c (grid0.coords t) _ _ _ _ _ _ _ _ _ _ _ _ _ _ _ _ _ _ _ _ _ _ (blk V c 0 t) (blk V c 1 t) (blk V c 2 t) (blk V c 3 t) (blk V c 4 t) (blk V c 5 t) (blk V c 6 t) (hid V c (t.val - 1) (pred_lt t)) (mu V c) (isd V c) (sum V c (t.val - 1) (pred_lt t)) h1 (fun e => by have := kt.mp e; omega) h5 (fun e => by have := k6.mp e; omega) (k7.mpr (by omega)) (k8.mpr h19) Set.univ _)
        isplitl [H0 H1 H2 H3 H4 H5 H6]
        · isplitl [H0]; · iexact H0
          isplitl [H1]; · iexact H1
          isplitl [H2]; · iexact H2
          isplitl [H3]; · iexact H3
          isplitl [H4]; · iexact H4
          isplitl [H5]; · iexact H5
          iexact H6
        isplitl [H7]; · iexact H7
        isplitl [HS]; · iexact HS
        isplitl [HM]; · iexact HM
        isplitl [HI]; · iexact HI
        iintro ⟨⟨H0, H1, H2, H3, H4, H5, H6⟩, H7, HS, HM, HI⟩
        isplitl [HS HM HI Ho]
        · isplitl [HS]; · iexact HS
          isplitl [HM]; · iexact HM
          isplitl [HI]; · iexact HI
          iexact Ho
        isplitl [Hw]; · iexact Hw
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · rw [if_neg h19]
        iintro ⟨⟨HS, HM, HI, Ho⟩, Hw, ⟨%d0, H0⟩, ⟨%d1, H1⟩, ⟨%d2, H2⟩, ⟨%d3, H3⟩, ⟨%d4, H4⟩, ⟨%d5, H5⟩, ⟨%d6, H6⟩, ⟨%d7, H7⟩⟩
        iapply (body_d c (grid0.coords t) _ _ _ _ _ _ _ _ _ _ _ _ _ _ _ _ _ _ _ _ _ _ (blk V c 0 t) (blk V c 1 t) (blk V c 2 t) (blk V c 3 t) (blk V c 4 t) (blk V c 5 t) (blk V c 6 t) (hid V c (t.val - 1) (pred_lt t)) (mu V c) (isd V c) (sum V c (t.val - 1) (pred_lt t)) h1 (fun e => by have := kt.mp e; omega) h5 (fun e => by have := k6.mp e; omega) (k7.mpr (by omega)) (fun e => h19 (k8.mp e)) Set.univ _)
        isplitl [H0 H1 H2 H3 H4 H5 H6]
        · isplitl [H0]; · iexact H0
          isplitl [H1]; · iexact H1
          isplitl [H2]; · iexact H2
          isplitl [H3]; · iexact H3
          isplitl [H4]; · iexact H4
          isplitl [H5]; · iexact H5
          iexact H6
        isplitl [H7]; · iexact H7
        isplitl [HS]; · iexact HS
        isplitl [HM]; · iexact HM
        isplitl [HI]; · iexact HI
        iintro ⟨⟨H0, H1, H2, H3, H4, H5, H6⟩, H7, HS, HM, HI⟩
        isplitl [HS HM HI Ho]
        · isplitl [HS]; · iexact HS
          isplitl [HM]; · iexact HM
          isplitl [HI]; · iexact HI
          iexact Ho
        isplitl [Hw]; · iexact Hw
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7

/-- The program the pipeline runs at point `t` is the body on its buffers. -/
theorem row (t : Fin cfg0.N) : defs₀ (F := F) .tc cfg0.body (cfg0.bodyArgs t (cfg0.slots t)) = bodyAt0 t := by
  unfold defs₀; rw [Defs.onTc_tc]

/-- The body obligation of the first call. -/
theorem obligation (c : Dev nD) : BodyObligation (dat V c) (defs₀ (F := F)) Variants.none () Set.univ := fun t => by
  rw [bigSep_W0, bigSep_W0, row]
  exact triple_restated (body_at V c t) rfl .rfl fun _ => .rfl

/-- The region's entry gives the invariant before the first point. -/
theorem enter (c : Dev nD) : iprop(Pipeline.scopedRest spec0 c ∗ emp) ⊢ (dat V c).Φ 0 := by
  rw [show (dat V c).Φ 0 = inv V c 0 (Nat.zero_le _) from rfl, inv_zero V c 0 _ rfl, rest_eq]
  iintro ⟨H, -⟩
  iexact H

/-- The invariant after the last point gives the scoped buffers back. -/
theorem leave (c : Dev nD) : (dat V c).Φ (Fin.last cfg0.N) ⊢ iprop(Pipeline.scopedRest spec0 c ∗ emp) := by
  rw [show (dat V c).Φ (Fin.last cfg0.N) = inv V c cfg0.N le_rfl from rfl, inv_second V c _ _ (by rw [show cfg0.N = 20 from N_0]; omega), rest_eq]
  iintro ⟨HS, HM, HI, Ho⟩
  isplitl [HS HM HI Ho]
  · isplitl [HS]; · iexists _; iexact HS
    isplitl [HM]; · iexists _; iexact HM
    isplitl [HI]; · iexists _; iexact HI
    iexact Ho
  iempintro

end Cert.KernelIdeal.Mlp

end
-- ==== Proof.Run.lean ====
/- The run of the whole program: the host reshapes, then the two calls, each entered from what is held before it and left with its result array at
   what its proof data compute. Every buffer of the program ends at a named value. -/
module

public import proofs.«01_k».proof.Proof.FlashRegion
public import proofs.«01_k».proof.Proof.MlpRegion
public import Idealize.ShloMosaic.Lib.Pipeline.RegionArraysS

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- What the first call leaves in its result array. -/
def mid (c : Dev nD) : Buf (Elt F) ((c : Thread nD τ).loc main_v4) := (Mlp.dat (V1 m) c).arrAt 7 cfg0.N

/-- The buffers' contents between the two calls. -/
abbrev Vmid (c : Dev nD) : Valuation τ sig (Elt F) := Function.update (V1 m c) main_v4 (mid m c)

/-- What the second call leaves in its result array. -/
def fin (c : Dev nD) : Buf (Elt F) ((c : Thread nD τ).loc main_v5) := (Flash.dat (Vmid m) c).arrAt 2 cfg1.N

/-- What the two calls leave in their result arrays. -/
def outs : Outs (F := F) := fun j r c =>
  if h4 : r = main_v4 then h4 ▸ mid m c else if h5 : r = main_v5 then h5 ▸ fin m c else m ((c : Thread nD τ).loc r)

/-- The first call's result among the results. -/
theorem outs_v4 (j : ℕ) (c : Dev nD) : outs m j main_v4 c = mid m c := by unfold outs; rw [dif_pos rfl]
/-- The second call's result among the results. -/
theorem outs_v5 (j : ℕ) (c : Dev nD) : outs m j main_v5 c = fin m c := by
  unfold outs; rw [dif_neg (by decide), dif_pos rfl]

/-- The memory between the two calls. -/
theorem V2_eq (c : Dev nD) : V2 m (outs m) c = Vmid m c := by unfold V2; rw [outs_v4]

/-- The two calls' proof data. -/
def pdats : (p : Fin 2) → (c : Dev nD) → Dat τ (Elt F) Unit ℕ (UR sig nD τ) ℕ (cfgs p) c
  | ⟨0, _⟩ => fun c => Mlp.dat (V1 m) c
  | ⟨1, _⟩ => fun c => Flash.dat (Vmid m) c

/-- Every cell of a TensorCore is assigned a level, the same one. -/
abbrev L : GSem nD τ sig → Finset Unit := fun g => if g.1.2 = .tc then Finset.univ else ∅
/-- Every counter is at level zero. -/
abbrev lv : GSem nD τ sig → Unit → ℕ := fun _ _ => 0

/-- Nothing, on every core. -/
abbrev nothing : Dev nD → sProp 𝕄 := fun _ => iprop(emp)

/-- What rides beside the buffers: that the core owes nothing. -/
abbrev E (_ : Fin 3) (c : Dev nD) : sProp 𝕄 :=
  iprop((∃ Wd, owes (c : Thread nD τ) (0 : CellTallies nD τ sig Unit) Wd) ∗ emp ∗ emp)

/-- The counters' levels suit either call. -/
theorem levels (p : Fin 2) : Pipeline.LevelCut (nD := nD) (τ := τ) (pcfgs (F := F)) adm () L lv p (fun _ => 0) (fun _ => 0) where
  hι _ _ _ := by simp [L]
  hιb _ _ _ := le_rfl
  hD _ _ _ h := absurd h (by simp)

set_option backward.isDefEq.respectTransparency.types false in
/-- The first call's record: entered from the buffers after the reshapes. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig) nothing nothing
    launch0.toP rfl (fun c => (Mlp.obligation (V1 m) c).loose) (fun _ _ => rfl) (fun _ => rfl)
    (fun c => (Mlp.dat (V1 m) c).share_full fun _ => rfl) (fun c => Mlp.enter (V1 m) c) (fun c => Mlp.leave (V1 m) c)
    (fun _ => 0) (levels 0) nothing (V1 m) (fun c w => Mlp.dat_A (V1 m) c w)

set_option backward.isDefEq.respectTransparency.types false in
/-- The second call's record: entered from the buffers the first call leaves. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig) nothing nothing
    launch1.toP rfl (fun c => (Flash.obligation (Vmid m) c).loose) (fun _ _ => rfl) (fun _ => rfl)
    (fun c => (Flash.dat (Vmid m) c).share_full fun _ => rfl) (fun c => Flash.enter (Vmid m) c) (fun c => Flash.leave (Vmid m) c)
    (fun _ => 0) (levels 1) nothing (Vmid m) (fun c w => Flash.dat_A (Vmid m) c w)

/-- After the first call only its result array has changed. -/
theorem after0 (c : Dev nD) : ∀ b ∈ Pipeline.ucRefs τ sig, Pipeline.afterRegion (Mlp.dat (V1 m) c) (V1 m c) b = V2 m (outs m) c b := by
  intro b hb
  obtain ⟨r, -, rfl⟩ := Finset.mem_map.mp (Finset.mem_filter.mp hb).1
  show Pipeline.afterRegion (Mlp.dat (V1 m) c) (V1 m c) (Proc.devRef .tc r) = V2 m (outs m) c (Proc.devRef .tc r)
  by_cases h : r = main_v4
  · subst h
    rw [V2_eq]
    exact (Pipeline.afterRegion_arr (Mlp.dat (V1 m) c) (V1 m c) winFacts0.arr_inj 7).trans (by unfold Vmid; rw [Function.update_self]; rfl)
  · rw [V2_of m (outs m) c r (by simpa using h)]
    refine Pipeline.afterRegion_keeps (Mlp.dat (V1 m) c) (V1 m c) winFacts0.arr_inj (Mlp.dat_A (V1 m) c) r fun w hw => ?_
    subst hw
    revert h
    revert w
    decide

/-- After the second call only its result array has changed. -/
theorem after1 (c : Dev nD) : ∀ b ∈ Pipeline.ucRefs τ sig, Pipeline.afterRegion (Flash.dat (Vmid m) c) (Vmid m c) b = V3 m (outs m) c b := by
  intro b hb
  obtain ⟨r, -, rfl⟩ := Finset.mem_map.mp (Finset.mem_filter.mp hb).1
  show Pipeline.afterRegion (Flash.dat (Vmid m) c) (Vmid m c) (Proc.devRef .tc r) = V3 m (outs m) c (Proc.devRef .tc r)
  by_cases h : r = main_v5
  · subst h
    exact (Pipeline.afterRegion_arr (Flash.dat (Vmid m) c) (Vmid m c) winFacts1.arr_inj 2).trans (by unfold V3; rw [Function.update_self, outs_v5]; rfl)
  · rw [V3_of m (outs m) c r (by simpa using h), V2_eq]
    refine Pipeline.afterRegion_keeps (Flash.dat (Vmid m) c) (Vmid m c) winFacts1.arr_inj (Flash.dat_A (Vmid m) c) r fun w hw => ?_
    subst hw
    revert h
    revert w
    decide

/-- The first call's arrays are arrays the core holds. -/
theorem arrs0 : Pipeline.arrRefs (τ := τ) (pcfgs (F := F) 0).spec ⊆ Pipeline.ucRefs τ sig :=
  show Pipeline.arrRefs (τ := τ) spec0 ⊆ Pipeline.ucRefs τ sig by decide
/-- The second call's arrays are arrays the core holds. -/
theorem arrs1 : Pipeline.arrRefs (τ := τ) (pcfgs (F := F) 1).spec ⊆ Pipeline.ucRefs τ sig :=
  show Pipeline.arrRefs (τ := τ) spec1 ⊆ Pipeline.ucRefs τ sig by decide

/-- What the core holds before the first call is what that call wants. -/
theorem pre0 (c : Dev nD) : iprop(StableHlo.held (c : Thread nD τ) (Pipeline.ucRefs τ sig) (V1 m c) ∗ E 0 c) ⊢ (reg0 m).pre c := by
  refine BIBase.Entails.trans ?_ (RegionSeg.ofHeldIn_pre arrs0 c)
  exact .rfl

/-- What the first call leaves is what the core holds after it. -/
theorem post0 (c : Dev nD) : (reg0 m).post c ⊢ iprop(StableHlo.held (c : Thread nD τ) (Pipeline.ucRefs τ sig) (V2 m (outs m) c) ∗ E 1 c) :=
  (RegionSeg.ofHeldIn_post arrs0 c).trans (sep_mono (Entails.of_eq (StableHlo.held_congr (c : Thread nD τ) (after0 m c))) .rfl)

/-- What the core holds before the second call is what that call wants. -/
theorem pre1 (c : Dev nD) : iprop(StableHlo.held (c : Thread nD τ) (Pipeline.ucRefs τ sig) (V2 m (outs m) c) ∗ E 1 c) ⊢ (reg1 m).pre c := by
  rw [V2_eq]
  refine BIBase.Entails.trans ?_ (RegionSeg.ofHeldIn_pre arrs1 c)
  exact .rfl

/-- What the second call leaves is what the core holds at the end. -/
theorem post1 (c : Dev nD) : (reg1 m).post c ⊢ iprop(StableHlo.held (c : Thread nD τ) (Pipeline.ucRefs τ sig) (V3 m (outs m) c) ∗ E 2 c) :=
  (RegionSeg.ofHeldIn_post arrs1 c).trans (sep_mono (Entails.of_eq (StableHlo.held_congr (c : Thread nD τ) (after1 m c))) .rfl)

/-- Every buffer of the program that outlives the calls, on every device, at its last value. -/
def Final (s : MemSt nD τ sig (Elt F)) : Prop :=
  ∀ (c : Dev nD) (r : Ref sig .tc), (Proc.devRef .tc r : DevRef τ sig) ∈ Pipeline.ucRefs τ sig → s.mem ((c : Thread nD τ).loc r) = V3 m (outs m) c r

set_option backward.isDefEq.respectTransparency.types false in
/-- From any memory with zero counters every weakly fair execution of the program terminates, with every buffer at its last value and every counter
    at zero. -/
theorem run_all : θ_run defs (onTc (τ := τ) (main (F := F))) ⟨m, fun _ => 0, ρ⟩ (fun r => Final m r.2 ∧ r.2.sem = fun _ => 0) := by
  refine Pipeline.θ_run_regions_kit_dev_sems (pcfgs (F := F)) adm (pdats m) () cellOf_inj emb₁ defs₀ Variants.none L lv m ρ main
    (segs m Variants.none L lv E () (pdats m) (reg0 m) (reg1 m))
    (fun c Q => by
      rewrite [main_chain c, Seg.run_eq_chain,
        show (segs m Variants.none L lv E () (pdats m) (reg0 m) (reg1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g hg => if_neg hg) nothing (initOf (Pipeline.cells cfgs cellOf_inj) (Pipeline.launchToks cfgs cellOf_inj)) ?_
    (T₀ := fun c => iprop(StableHlo.held (c : Thread nD τ) (Pipeline.ucRefs τ sig) (V0 m c) ∗ E 0 c))
    (Tₙ := fun c => StableHlo.held (c : Thread nD τ) (Pipeline.ucRefs τ sig) (V3 m (outs m) c))
    (hch := fun c => ⟨.rfl, pre0 m c, (post0 m c).trans (pre1 m c), (post1 m c).trans (sep_mono .rfl (by iintro ⟨H, -⟩; iexact H))⟩)
    (hinit := ?_)
    (QY := fun c s => ∀ r : Ref sig .tc, (Proc.devRef .tc r : DevRef τ sig) ∈ Pipeline.ucRefs τ sig → s.mem ((c : Thread nD τ).loc r) = V3 m (outs m) c r)
    (hfin := fun c s' => ?_) (hQ := fun _ h hz => ⟨h, funext fun g => hz g (.inr (regions_no_unscoped g.2))⟩)
  · -- the launch's element is the calls' transfers
    iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    · iapply (show (iprop(emp) : sProp 𝕄) ⊢ bigSep Finset.univ nothing from (Entails.of_eq (BI.bigSep_emp_const _).symm))
      iempintro
  · -- the launch's buffers are held at the launch memory, each core owing nothing
    have hone : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ nothing c)
        ⊢ (iprop(StableHlo.held (c : Thread nD τ) (Pipeline.ucRefs τ sig) (V0 m c) ∗ E 0 c) : sProp 𝕄) := fun c => by
      rw [← Pipeline.unscopedBufs_held (Ix := Unit) (Name := ℕ) (U := UR sig nD τ) (Lvl := ℕ) c (V0 m c)]
      iintro ⟨Hb, -, Ho, -⟩
      isplitl [Hb]; · iexact Hb
      isplitl [Ho]; · iexists _; iexact Ho
      isplitl [] <;> iempintro
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ nothing c))
        ⊢ (bigSep Finset.univ fun c : Dev nD => iprop(StableHlo.held (c : Thread nD τ) (Pipeline.ucRefs τ sig) (V0 m c) ∗ E 0 c) : sProp 𝕄) :=
      bigSep_mono fun c _ => hone c
    iintro ⟨H, -⟩
    imodintro
    iapply hsplit
    iexact H
  · -- the end: every buffer read off the last valuation
    unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact fun r hr => h (Proc.devRef .tc r) hr
    iexact HSI

/-- Every argument ends as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(h.1 c main_arg0 (by decide)).trans (V3_main_arg0 m (outs m) c),
    (h.1 c main_arg1 (by decide)).trans (V3_main_arg1 m (outs m) c),
    (h.1 c main_arg2 (by decide)).trans (V3_main_arg2 m (outs m) c),
    (h.1 c main_arg3 (by decide)).trans (V3_main_arg3 m (outs m) c),
    (h.1 c main_arg4 (by decide)).trans (V3_main_arg4 m (outs m) c),
    (h.1 c main_arg5 (by decide)).trans (V3_main_arg5 m (outs m) c),
    (h.1 c main_arg6 (by decide)).trans (V3_main_arg6 m (outs m) c),
    (h.1 c main_arg7 (by decide)).trans (V3_main_arg7 m (outs m) c),
    (h.1 c main_arg8 (by decide)).trans (V3_main_arg8 m (outs m) c)⟩, h.2⟩) (run_all m ρ)

/-- The same with the program's result at what the second call computes. -/
theorem value : θ_run defs (onTc (τ := τ) (main (F := F))) ⟨m, fun _ => 0, ρ⟩ (fun r => (∀ c : Dev nD,
      r.2.mem ((c.tc : Thread nD τ).loc main_v5) = fin m c) ∧ r.2.sem = fun _ => 0) :=
  (θ_run defs _ _).mono (fun _ h => ⟨fun c => (h.1 c main_v5 (by decide)).trans (by unfold V3; rw [Function.update_self, outs_v5]), h.2⟩) (run_all m ρ)

end Cert.KernelIdeal.Whole

end
-- ==== Proof.Maths.lean ====
/- The mathematics the two programs share, over the extended reals and without their shapes: a row's layer normalisation, its activation, its
   scaling to unit length, and the softmax-weighted blend of the vocabulary's rows. Each of the two ways of writing a step is shown to be one. -/
module

public import Idealize.ShloMosaic.PureOps.Ideal
public import Idealize.ShloMosaic.Lib.Pointwise

@[expose] public section

noncomputable section

namespace Cert.Maths

open Idealize.ShloMosaic

/-! ## The constants -/

/-- The rows' length. -/
def len : EReal := Ideal.ofBits .f32 0x45A00000#32
/-- What the variance is padded by. -/
def pad : EReal := Ideal.ofBits .f32 0x3727C5AC#32
/-- One half. -/
def half : EReal := Ideal.ofBits .f32 0x3F000000#32
/-- The inverse square root of two. -/
def root : EReal := Ideal.ofBits .f32 0x3F3504F3#32
/-- The residual's weight. -/
def fifth : EReal := Ideal.ofBits .f32 0x3E4CCCCD#32
/-- The smallest length a row is divided by. -/
def tiny : EReal := Ideal.ofBits .f32 0x2B8CBCCC#32
/-- The temperature. -/
def temp : EReal := Ideal.ofBits .f32 0x3DCCCCCD#32
/-- The smallest length's square. -/
def tinySq : EReal := ((5316911940649 / 5316911983139663491615228241121378304 : ℝ) : EReal)
/-- The temperature's inverse. -/
def heat : EReal := ((134217728 / 13421773 : ℝ) : EReal)

/-- The row length's literal is 5120. -/
theorem len_eq : len = ((5120 : ℝ) : EReal) := by
  simp [len, Ideal.ofBits, Ideal.ieee, -EReal.coe_mul]; norm_num
/-- The literal added to a variance, as a fraction. -/
theorem pad_eq : pad = ((10995116 / 1099511627776 : ℝ) : EReal) := by
  simp [pad, Ideal.ofBits, Ideal.ieee, -EReal.coe_mul]; norm_num
/-- The least length's literal, as a fraction. -/
theorem tiny_eq : tiny = ((2305843 / 2305843009213693952 : ℝ) : EReal) := by
  simp [tiny, Ideal.ofBits, Ideal.ieee, -EReal.coe_mul]; norm_num
/-- The temperature's literal, as a fraction. -/
theorem temp_eq : temp = ((13421773 / 134217728 : ℝ) : EReal) := by
  simp [temp, Ideal.ofBits, Ideal.ieee, -EReal.coe_mul]; norm_num
/-- The literal of minus infinity is the least extended real. -/
theorem bottom_eq : Ideal.ofBits .f32 0xFF800000#32 = ⊥ := by
  simp [Ideal.ofBits, Ideal.ieee]

/-! ## Squares and roots -/

/-- The square root of infinity. -/
theorem sqrt_top : Ideal.sqrt ⊤ = ⊤ := rfl
/-- The inverse square root of infinity. -/
theorem rsqrt_top : Ideal.rsqrt ⊤ = 0 := rfl
/-- The square root of a number that is not negative. -/
theorem sqrt_coe (r : ℝ) (hr : 0 ≤ r) : Ideal.sqrt (r : EReal) = (Real.sqrt r : EReal) := if_neg (not_lt.2 hr)
/-- The exponential of a number. -/
theorem exp_coe (r : ℝ) : Ideal.exp (r : EReal) = (Real.exp r : EReal) := rfl
/-- The larger of two numbers. -/
theorem max_coe (a b : ℝ) : max (a : EReal) (b : EReal) = ((max a b : ℝ) : EReal) := (EReal.coe_strictMono.monotone.map_max).symm
/-- A finite sum of numbers. -/
theorem coe_sum {ι : Type} (s : Finset ι) (g : ι → ℝ) : ∑ k ∈ s, (g k : EReal) = ((∑ k ∈ s, g k : ℝ) : EReal) := by
  classical
  induction s using Finset.induction_on with
  | empty => simp
  | insert a s ha ih => rw [Finset.sum_insert ha, Finset.sum_insert ha, ih, EReal.coe_add]
/-- Division by a number other than zero is multiplication by its inverse. -/
theorem div_coe (a : EReal) (r : ℝ) (hr : r ≠ 0) : Ideal.div a (r : EReal) = a * ((r⁻¹ : ℝ) : EReal) := by
  rw [Ideal.div, if_neg (by exact_mod_cast hr), EReal.coe_inv]
/-- Anything over infinity is zero. -/
theorem div_top (a : EReal) : Ideal.div a ⊤ = 0 := by
  rw [Ideal.div, if_neg (by simp), EReal.inv_top, mul_zero]

/-- A square is not negative. -/
theorem sq_nonneg (x : EReal) : 0 ≤ x * x := by
  induction x with
  | bot => simp
  | top => simp
  | coe r => exact_mod_cast mul_self_nonneg r

/-- A sum of squares is not negative. -/
theorem sumsq_nonneg {ι : Type} [Fintype ι] (f : ι → EReal) : 0 ≤ ∑ k, f k * f k := Finset.sum_nonneg fun k _ => sq_nonneg _

/-- Dividing by a positive number's root is multiplying by its inverse root. -/
theorem div_sqrt (a x : EReal) (hx : 0 < x) : Ideal.div a (Ideal.sqrt x) = a * Ideal.rsqrt x := by
  induction x with
  | bot => exact absurd hx (by simp)
  | top => rw [sqrt_top, rsqrt_top, div_top, mul_zero]
  | coe r =>
    have hr : 0 < r := by exact_mod_cast hx
    have h2 : Ideal.rsqrt (r : EReal) = ((Real.sqrt r)⁻¹ : ℝ) := (if_neg (not_lt.2 hr.le)).trans (if_neg hr.ne')
    rw [sqrt_coe r hr.le, h2, div_coe _ _ (Real.sqrt_pos.2 hr).ne']

/-- The inverse root of a positive number is a number that is not negative. -/
theorem rsqrt_real (x : EReal) (hx : 0 < x) : ∃ r : ℝ, 0 ≤ r ∧ Ideal.rsqrt x = (r : EReal) ∧ (x = ⊤ → r = 0) := by
  induction x with
  | bot => exact absurd hx (by simp)
  | top => exact ⟨0, le_refl _, rfl, fun _ => rfl⟩
  | coe r =>
    have hr : 0 < r := by exact_mod_cast hx
    exact ⟨(Real.sqrt r)⁻¹, inv_nonneg.2 (Real.sqrt_nonneg r), (if_neg (not_lt.2 hr.le)).trans (if_neg hr.ne'), fun h => absurd h (EReal.coe_ne_top r)⟩

/-- The root of the larger of a sum of squares and the smallest square is the larger of the two roots. -/
theorem sqrt_max (x : EReal) (hx : 0 ≤ x) : Ideal.sqrt (max x tinySq) = max tiny (Ideal.sqrt x) := by
  have ht : Real.sqrt (5316911940649 / 5316911983139663491615228241121378304) = 2305843 / 2305843009213693952 := by
    rw [show (5316911940649 / 5316911983139663491615228241121378304 : ℝ) = (2305843 / 2305843009213693952) ^ 2 by norm_num]
    exact Real.sqrt_sq (by norm_num)
  induction x with
  | bot => exact absurd hx (by simp)
  | top => rw [max_eq_left le_top, sqrt_top, max_eq_right le_top]
  | coe r =>
    have hr : 0 ≤ r := by exact_mod_cast hx
    have hmono : Monotone Real.sqrt := fun _ _ h => Real.sqrt_le_sqrt h
    unfold tinySq
    rw [max_coe, sqrt_coe _ (le_max_of_le_left hr), sqrt_coe r hr, tiny_eq, max_coe, hmono.map_max, ht, max_comm]

/-- The least squared length is positive. -/
theorem tinySq_pos : 0 < tinySq := by unfold tinySq; exact_mod_cast (by norm_num : (0 : ℝ) < 5316911940649 / 5316911983139663491615228241121378304)

/-! ## The layer normalisation -/

/-- A row's hidden values: its product with a matrix, and a bias. -/
def hidden (e : Fin 5120 → EReal) (w : Fin 5120 → Fin 5120 → EReal) (b : Fin 5120 → EReal) (k : Fin 5120) : EReal := (∑ j, e j * w j k) + b k

/-- A row's mean. -/
def mean (h : Fin 5120 → EReal) : EReal := Ideal.div (∑ k, h k) len
/-- A row's variance. -/
def var (h : Fin 5120 → EReal) : EReal := Ideal.div (∑ k, (h k - mean h) * (h k - mean h)) len
/-- A row normalised, scaled and shifted. -/
def normed (h lw lb : Fin 5120 → EReal) (k : Fin 5120) : EReal := (h k - mean h) * Ideal.rsqrt (var h + pad) * lw k + lb k

/-- A variance with the literal added is positive. -/
theorem var_pad_pos (h : Fin 5120 → EReal) : 0 < var h + pad := by
  have h0 : 0 ≤ var h := by
    have hl : len ≠ 0 := by rw [len_eq]; exact_mod_cast (by norm_num : (5120 : ℝ) ≠ 0)
    unfold var; rw [Ideal.div, if_neg hl]
    refine mul_nonneg (sumsq_nonneg _) (EReal.inv_nonneg_of_nonneg ?_)
    rw [len_eq]; exact_mod_cast (by norm_num : (0 : ℝ) ≤ 5120)
  have hp : 0 < pad := by rw [pad_eq]; exact_mod_cast (by norm_num : (0 : ℝ) < 10995116 / 1099511627776)
  exact lt_of_lt_of_le hp (le_add_of_nonneg_left h0)

/-- The row length is positive. -/
theorem len_pos : 0 < len := by rw [len_eq]; exact_mod_cast (by norm_num : (0 : ℝ) < 5120)

/-- Dividing by the padded variance's root is multiplying by its inverse root. -/
theorem normed_eq (h lw lb : Fin 5120 → EReal) (k : Fin 5120) :
    Ideal.div (h k - mean h) (Ideal.sqrt (var h + pad)) * lw k + lb k = normed h lw lb k := by
  unfold normed; rw [div_sqrt _ _ (var_pad_pos h)]

/-! ## The activation -/

/-- The exact Gaussian error linear unit. -/
def act (x : EReal) : EReal := half * x * (1 + Ideal.erf (x * root))

/-- The error function is odd. -/
theorem erf_neg (x : EReal) : Ideal.erf (-x) = -Ideal.erf x := by
  induction x with
  | bot => show (1 : EReal) = -(-1); simp
  | top => show (-1 : EReal) = -(1); rfl
  | coe r =>
    show ((2 / Real.sqrt Real.pi * ∫ t in (0 : ℝ)..(-r), Real.exp (-(t ^ 2)) : ℝ) : EReal) = -((2 / Real.sqrt Real.pi * ∫ t in (0 : ℝ)..r, Real.exp (-(t ^ 2)) : ℝ) : EReal)
    have hI : ∫ t in (0 : ℝ)..(-r), Real.exp (-(t ^ 2)) = -∫ t in (0 : ℝ)..r, Real.exp (-(t ^ 2)) := by
      have := intervalIntegral.integral_comp_neg (a := (0 : ℝ)) (b := r) (fun t : ℝ => Real.exp (-(t ^ 2)))
      simp only [neg_sq, neg_zero] at this
      rw [this, intervalIntegral.integral_symm]
    rw [hI, mul_neg, EReal.coe_neg]

/-- The unit written with the complementary error function of the negated argument. -/
theorem act_eq (x : EReal) : half * x * Ideal.erfc (-x * root) = act x := by
  unfold act Ideal.erfc
  rw [EReal.neg_mul, erf_neg, sub_eq_add_neg, neg_neg]

/-! ## Rows of unit length -/

/-- A row with a fifth of its perceptron's output added. -/
def mixed (e h lw lb : Fin 5120 → EReal) (w : Fin 5120 → Fin 5120 → EReal) (b : Fin 5120 → EReal) (l : Fin 5120) : EReal :=
  e l + fifth * ((∑ j, act (normed h lw lb j) * w j l) + b l)

/-- A row divided by its length. -/
def unit (t : Fin 5120 → EReal) (l : Fin 5120) : EReal := Ideal.div (t l) (max (Ideal.sqrt (∑ k, t k * t k)) tiny)

/-- A sum of squares with an infinite entry is infinite. -/
theorem sumsq_top {ι : Type} [Fintype ι] (f : ι → EReal) (k : ι) (hk : f k = ⊤ ∨ f k = ⊥) : ∑ k, f k * f k = ⊤ := by
  refine top_le_iff.1 ?_
  have h1 : f k * f k = ⊤ := by rcases hk with h | h <;> simp [h]
  rw [← h1]
  exact Finset.single_le_sum (f := fun k => f k * f k) (fun i _ => sq_nonneg _) (Finset.mem_univ k)

/-- A sum of finite entries is finite. -/
theorem sum_real {ι : Type} (s : Finset ι) (f : ι → EReal) (h : ∀ k, ∃ r : ℝ, f k = r) : ∃ r : ℝ, ∑ k ∈ s, f k = r := by
  choose g hg using h
  exact ⟨∑ k ∈ s, g k, by simp only [hg]; exact coe_sum s g⟩

/-- What is neither infinity is a number. -/
theorem real_of {x : EReal} (h : ¬(x = ⊤ ∨ x = ⊥)) : ∃ r : ℝ, x = r :=
  ⟨x.toReal, (EReal.coe_toReal (fun h' => h (.inl h')) (fun h' => h (.inr h'))).symm⟩

/-- A row of unit length is finite, whatever the row was. -/
theorem unit_real (t : Fin 5120 → EReal) (l : Fin 5120) : ∃ r : ℝ, unit t l = r := by
  unfold unit
  by_cases h : ∃ k, t k = ⊤ ∨ t k = ⊥
  · obtain ⟨k, hk⟩ := h
    rw [sumsq_top t k hk]
    exact ⟨0, by rw [sqrt_top, max_eq_left le_top, div_top]; rfl⟩
  · have h' : ∀ k, ∃ r : ℝ, t k = r := fun k => real_of fun hk => h ⟨k, hk⟩
    choose g hg using h'
    obtain ⟨q, hq⟩ : ∃ q : ℝ, q = ∑ k, g k * g k := ⟨_, rfl⟩
    have hs : ∑ k, t k * t k = (q : EReal) := by
      rw [hq, ← coe_sum]; exact Finset.sum_congr rfl fun k _ => by rw [hg, EReal.coe_mul]
    have hn : 0 ≤ q := hq ▸ Finset.sum_nonneg fun k _ => mul_self_nonneg _
    obtain ⟨y, hy, hy0⟩ : ∃ y : ℝ, tiny = y ∧ 0 < y := ⟨_, tiny_eq, by norm_num⟩
    rw [hs, sqrt_coe _ hn, hy, max_coe, div_coe _ _ (lt_max_of_lt_right hy0).ne', hg, ← EReal.coe_mul]
    exact ⟨_, rfl⟩

/-! ## The softmax-weighted blend -/

/-- The similarity of a row of unit length to a vocabulary row. -/
def sim (u v : Fin 5120 → EReal) : EReal := (∑ k, u k * v k) * Ideal.rsqrt (max (∑ k, v k * v k) tinySq)
/-- The unnormalised weight of a vocabulary row. -/
def weight (u v : Fin 5120 → EReal) : EReal := Ideal.exp ((sim u v - 1) * heat)
/-- The blend of the vocabulary's rows by their weights. -/
def blend (u : Fin 5120 → EReal) (v : Fin 32000 → Fin 5120 → EReal) (l : Fin 5120) : EReal :=
  Ideal.div (∑ i, weight u (v i) * v i l) (∑ i, weight u (v i))

/-- A factor that is a number and not negative moves out of a sum. -/
theorem sum_mul_real {ι : Type} (s : Finset ι) (f : ι → EReal) (r : ℝ) (hr : 0 ≤ r) : ∑ k ∈ s, f k * (r : EReal) = (∑ k ∈ s, f k) * (r : EReal) := by
  classical
  induction s using Finset.induction_on with
  | empty => simp
  | insert a s ha ih =>
    rw [Finset.sum_insert ha, Finset.sum_insert ha, ih, EReal.right_distrib_of_nonneg_of_ne_top (by exact_mod_cast hr) (EReal.coe_ne_top r)]

/-- A squared length, cut off from below, is positive. -/
theorem max_pos (x : EReal) : 0 < max x tinySq := lt_max_of_lt_right tinySq_pos

/-- The similarity written with the vocabulary row divided by its length first. -/
theorem sim_eq (u v : Fin 5120 → EReal) :
    ∑ k, u k * Ideal.div (v k) (max tiny (Ideal.sqrt (∑ k, v k * v k))) = sim u v := by
  obtain ⟨r, hr, hx, -⟩ := rsqrt_real _ (max_pos (∑ k, v k * v k))
  unfold sim
  rw [← sqrt_max _ (sumsq_nonneg v), hx, ← sum_mul_real _ _ r hr]
  refine Finset.sum_congr rfl fun k _ => ?_
  rw [div_sqrt _ _ (max_pos _), hx, mul_assoc]

/-- The similarity of a finite row is finite, whatever the vocabulary row. -/
theorem sim_real (u v : Fin 5120 → EReal) (hu : ∀ k, ∃ r : ℝ, u k = r) : ∃ r : ℝ, sim u v = r := by
  obtain ⟨r, hr, hx, h0⟩ := rsqrt_real _ (max_pos (∑ k, v k * v k))
  unfold sim
  by_cases h : ∃ k, v k = ⊤ ∨ v k = ⊥
  · obtain ⟨k, hk⟩ := h
    have h1 : r = 0 := h0 (by rw [sumsq_top v k hk]; exact max_eq_left le_top)
    rw [hx, h1]; exact ⟨0, by simp⟩
  · obtain ⟨q, hq⟩ := sum_real Finset.univ (fun k => u k * v k) fun k => by
      obtain ⟨a, ha⟩ := hu k
      obtain ⟨b, hb⟩ := real_of fun hk => h ⟨k, hk⟩
      exact ⟨a * b, by rw [ha, hb, EReal.coe_mul]⟩
    rw [hx, hq]; exact ⟨q * r, by rw [EReal.coe_mul]⟩

/-- The largest of finitely many numbers (and the bottom) is a number, if there is one at all. -/
theorem fold_max_real {ι : Type} (S : Finset ι) (s : ι → EReal) (h : ∀ i, ∃ r : ℝ, s i = r) (i₀ : ι) (hi : i₀ ∈ S) :
    ∃ r : ℝ, max ⊥ (S.fold max ⊥ s) = r := by
  rw [max_eq_right bot_le]
  refine real_of fun hk => ?_
  rcases hk with hk | hk
  · have : ∀ t : Finset ι, t.fold max ⊥ s ≠ ⊤ := by
      intro t
      classical
      induction t using Finset.induction_on with
      | empty => simp
      | insert a t ha ih =>
        rw [Finset.fold_insert ha]
        obtain ⟨r, hr⟩ := h a
        rcases max_choice (s a) (t.fold max ⊥ s) with e | e
        · rw [e, hr]; exact EReal.coe_ne_top r
        · rw [e]; exact ih
    exact this _ hk
  · obtain ⟨r, hr⟩ := h i₀
    have h1 : s i₀ ≤ S.fold max ⊥ s := (Finset.le_fold_max _).2 (.inr ⟨i₀, hi, le_refl _⟩)
    rw [hk, hr] at h1
    exact absurd (le_bot_iff.1 h1) (EReal.coe_ne_bot r)

/-- A similarity over the temperature is finite. -/
theorem sim_temp_real (u v : Fin 5120 → EReal) (hu : ∀ k, ∃ r : ℝ, u k = r) : ∃ r : ℝ, Ideal.div (sim u v) temp = r := by
  obtain ⟨q, hq⟩ := sim_real u v hu
  rw [hq, temp_eq, div_coe _ _ (by norm_num), ← EReal.coe_mul]
  exact ⟨_, rfl⟩

/-- Numbers' exponentials shifted, scaled to sum to one and summed against a vector, written with two shifts. -/
theorem softmax_shift {ι : Type} [Fintype ι] [Nonempty ι] (z : ι → ℝ) (mx d : ℝ) (v : ι → EReal) :
    ∑ i, Ideal.div ((Real.exp (z i - mx) : ℝ) : EReal) (∑ j, ((Real.exp (z j - mx) : ℝ) : EReal)) * v i
      = Ideal.div (∑ i, ((Real.exp (z i - d) : ℝ) : EReal) * v i) (∑ i, ((Real.exp (z i - d) : ℝ) : EReal)) := by
  have hw : ∀ i, Real.exp (z i - d) = Real.exp (z i - mx) * Real.exp (mx - d) := fun i => by rw [← Real.exp_add]; congr 1; ring
  simp only [hw]
  generalize hC : Real.exp (mx - d) = C
  have hC0 : 0 < C := hC ▸ Real.exp_pos _
  obtain ⟨P, hP⟩ : ∃ P : ι → ℝ, ∀ i, Real.exp (z i - mx) = P i := ⟨_, fun _ => rfl⟩
  have hP0 : ∀ i, 0 < P i := fun i => hP i ▸ Real.exp_pos _
  simp only [hP]
  have hL0 : 0 < ∑ i, P i := Finset.sum_pos (fun i _ => hP0 i) Finset.univ_nonempty
  have hK0 : 0 < (∑ i, P i) * C := mul_pos hL0 hC0
  rw [coe_sum, coe_sum, ← Finset.sum_mul, div_coe _ _ hK0.ne', ← sum_mul_real _ _ _ (inv_nonneg.2 hK0.le)]
  refine Finset.sum_congr rfl fun i _ => ?_
  rw [div_coe _ _ hL0.ne', ← EReal.coe_mul, mul_comm ((P i * C : ℝ) : EReal), mul_assoc, ← EReal.coe_mul, mul_comm (v i)]
  congr 2
  field_simp

/-- The blend written the usual way: similarities over the temperature, some number (their largest) subtracted, and each weight divided by the weights' sum. -/
theorem blend_eq (u : Fin 5120 → EReal) (v : Fin 32000 → Fin 5120 → EReal) (hu : ∀ k, ∃ r : ℝ, u k = r) (s : Fin 32000 → EReal)
    (hs : ∀ i, s i = Ideal.div (sim u (v i)) temp) (M : EReal) (hM : ∃ r : ℝ, M = r) (l : Fin 5120) :
    ∑ i, Ideal.div (Ideal.exp (s i - M)) (∑ j, Ideal.exp (s j - M)) * v i l = blend u v l := by
  have hsim : ∀ i, ∃ r : ℝ, sim u (v i) = r := fun i => sim_real u (v i) hu
  choose q hq using hsim
  obtain ⟨h, hh, hht⟩ : ∃ h : ℝ, heat = h ∧ ∀ a : EReal, Ideal.div a temp = a * (h : EReal) :=
    ⟨134217728 / 13421773, rfl, fun a => by
      rw [temp_eq, div_coe _ _ (by norm_num)]; congr 2; norm_num⟩
  have hs' : ∀ i, s i = ((q i * h : ℝ) : EReal) := fun i => by rw [hs, hq, hht, ← EReal.coe_mul]
  obtain ⟨mx, hM'⟩ := hM
  have hp : ∀ i, Ideal.exp (s i - M) = ((Real.exp (q i * h - mx) : ℝ) : EReal) := fun i => by
    rw [hs', hM', ← EReal.coe_sub, exp_coe]
  have hw : ∀ i, weight u (v i) = ((Real.exp (q i * h - h) : ℝ) : EReal) := fun i => by
    unfold weight
    rw [hh, hq, ← EReal.coe_one, ← EReal.coe_sub, ← EReal.coe_mul, exp_coe, sub_mul, one_mul]
  unfold blend
  simp only [hp, hw]
  exact softmax_shift (fun i => q i * h) mx h fun i => v i l

end Cert.Maths
-- ==== Proof.MlpValue.lean ====
/- What the first call computes over the extended reals, one element at a time: the hidden rows as whole matrix products, their mean and
   inverse deviation, and the normalised rows it leaves in its result array. -/
module

public import proofs.«01_k».proof.Proof.MlpRegion
public import proofs.«01_k».proof.Proof.Maths
public import Idealize.ShloMosaic.Lib.Pointwise
public import Idealize.ShloMosaic.Lib.Pipeline.ValueKit

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL.Sem
open Idealize.ShloMosaic.Pipeline (Dat)

section Value

variable (V : Dev nD → Valuation τ sig (Elt Ideal))

/-- The embeddings the call reads. -/
abbrev xE (c : Dev nD) : FVec Ideal S64x5120 .f32 := V c (Proc.devRef .tc main_arg0)
/-- The first weight. -/
abbrev xW1 (c : Dev nD) : FVec Ideal S5120x5120 .f32 := V c (Proc.devRef .tc main_arg2)
/-- The first bias, as a row. -/
abbrev xB1 (c : Dev nD) : FVec Ideal S1x5120 .f32 := V c (Proc.devRef .tc main_v0)
/-- The normalisation's scale, as a row. -/
abbrev xLW (c : Dev nD) : FVec Ideal S1x5120 .f32 := V c (Proc.devRef .tc main_v1)
/-- The normalisation's shift, as a row. -/
abbrev xLB (c : Dev nD) : FVec Ideal S1x5120 .f32 := V c (Proc.devRef .tc main_v2)
/-- The second weight. -/
abbrev xW2 (c : Dev nD) : FVec Ideal S5120x5120 .f32 := V c (Proc.devRef .tc main_arg6)
/-- The second bias, as a row. -/
abbrev xB2 (c : Dev nD) : FVec Ideal S1x5120 .f32 := V c (Proc.devRef .tc main_v3)

/-- The windows' block indices at every point. -/
theorem idx : ∀ t : Fin cfg0.N, win0_0.index t = ![0, 0] ∧ win0_1.index t = ![min t.val 9, 0] ∧ win0_2.index t = ![0, 0]
    ∧ win0_3.index t = ![0, 0] ∧ win0_4.index t = ![0, 0] ∧ win0_5.index t = ![t.val - 10, 0] ∧ win0_6.index t = ![0, 0] ∧ win0_7.index t = ![0, 0] :=
  (by decide +kernel : ∀ t : Fin grid0.N, _)

/-- Every step reads all the embeddings. -/
theorem emb_eq (c : Dev nD) (t : Fin cfg0.N) : emb V c t = xE V c := by blk_ext! [blk, idx t]
/-- Every step reads the whole first bias. -/
theorem b1_eq (c : Dev nD) (t : Fin cfg0.N) : b1 V c t = xB1 V c := by blk_ext! [blk, idx t]
/-- Every step reads the whole scale. -/
theorem lnw_eq (c : Dev nD) (t : Fin cfg0.N) : lnw V c t = xLW V c := by blk_ext! [blk, idx t]
/-- Every step reads the whole shift. -/
theorem lnb_eq (c : Dev nD) (t : Fin cfg0.N) : lnb V c t = xLB V c := by blk_ext! [blk, idx t]
/-- Every step reads the whole second bias. -/
theorem b2_eq (c : Dev nD) (t : Fin cfg0.N) : b2 V c t = xB2 V c := by blk_ext! [blk, idx t]
/-- There are 20 steps. -/
theorem lt20 (t : Fin cfg0.N) : t.val < 20 := lt_of_lt_of_eq t.isLt N_0
/-- Row `k` of the block of the first weight at point `t` of the first half. -/
theorem w1_at (c : Dev nD) (t : Fin cfg0.N) (ht : t.val < 10) (k : Fin 512) (l : Fin 5120) :
    w1 V c t (ix2 k l) = xW1 V c (ix2 ⟨t.val * 512 + k.val, by omega⟩ l) := by
  have h : min t.val 9 = t.val := by omega
  blk_ext [blk, idx t, h]
/-- Row `k` of the block of the second weight at point `t` of the second half. -/
theorem w2_at (c : Dev nD) (t : Fin cfg0.N) (ht : 10 ≤ t.val) (k : Fin 512) (l : Fin 5120) :
    w2 V c t (ix2 k l) = xW2 V c (ix2 ⟨(t.val - 10) * 512 + k.val, by have := lt20 t; omega⟩ l) := by
  blk_ext [blk, idx t]

/-- Step `t` of the first half reads the embeddings' columns from `512 t`. -/
theorem off1 : ∀ t : Fin cfg0.N, t.val < 10 → k0_off1 (grid0.coords t) 0 = 0 ∧ k0_off1 (grid0.coords t) 1 = t.val * 512 :=
  (by decide +kernel : ∀ t : Fin grid0.N, _)
/-- A step of the second half reads the hidden columns of its block. -/
theorem off2 : ∀ t : Fin cfg0.N, 10 ≤ t.val → k0_off2 (grid0.coords t) 0 = 0 ∧ k0_off2 (grid0.coords t) 1 = (t.val - 10) * 512 :=
  (by decide +kernel : ∀ t : Fin grid0.N, _)
/-- A step of the second half reads the parameter rows' columns of its block. -/
theorem off3 : ∀ t : Fin cfg0.N, 10 ≤ t.val → k0_off3 (grid0.coords t) 0 = 0 ∧ k0_off3 (grid0.coords t) 1 = (t.val - 10) * 512 :=
  (by decide +kernel : ∀ t : Fin grid0.N, _)
/-- The first ten steps run the first half. -/
theorem on1 : ∀ t : Fin cfg0.N, t.val < 10 → k0_cond1 (grid0.coords t) = 1#1 := (by decide +kernel : ∀ t : Fin grid0.N, _)
/-- The last ten steps run the second half. -/
theorem on5 : ∀ t : Fin cfg0.N, 10 ≤ t.val → k0_cond5 (grid0.coords t) = 1#1 := (by decide +kernel : ∀ t : Fin grid0.N, _)
/-- The last ten steps do not run the first half. -/
theorem off1' : ∀ t : Fin cfg0.N, 10 ≤ t.val → ¬ k0_cond1 (grid0.coords t) = 1#1 := (by decide +kernel : ∀ t : Fin grid0.N, _)

/-- The block of embedding columns that a step of the first half reads. -/
theorem colsE_at (t : Fin cfg0.N) (ht : t.val < 10) (h1) (x : FVec Ideal S64x5120 .f32) (r : Fin 64) (k : Fin 512) :
    colsE (F := Ideal) (grid0.coords t) h1 x (ix2 r k) = x (ix2 r ⟨t.val * 512 + k.val, by omega⟩) := by
  unfold colsE
  refine congrArg x (funext fun a => Fin.ext ?_)
  refine (Rect.idx_unit_val _ _ _ _ a).trans ?_
  match a with
  | ⟨0, _⟩ => show k0_off1 (grid0.coords t) 0 + r.val = r.val; rw [(off1 t ht).1, Nat.zero_add]
  | ⟨1, _⟩ => show k0_off1 (grid0.coords t) 1 + k.val = t.val * 512 + k.val; rw [(off1 t ht).2]
/-- The block of hidden columns that a step of the second half reads. -/
theorem colsH_at (t : Fin cfg0.N) (ht : 10 ≤ t.val) (h5) (x : FVec Ideal S64x5120 .f32) (r : Fin 64) (k : Fin 512) :
    colsH (F := Ideal) (grid0.coords t) h5 x (ix2 r k) = x (ix2 r ⟨(t.val - 10) * 512 + k.val, by have := lt20 t; omega⟩) := by
  unfold colsH
  refine congrArg x (funext fun a => Fin.ext ?_)
  refine (Rect.idx_unit_val _ _ _ _ a).trans ?_
  match a with
  | ⟨0, _⟩ => show k0_off2 (grid0.coords t) 0 + r.val = r.val; rw [(off2 t ht).1, Nat.zero_add]
  | ⟨1, _⟩ => show k0_off2 (grid0.coords t) 1 + k.val = (t.val - 10) * 512 + k.val; rw [(off2 t ht).2]
/-- The block of a parameter row that a step of the second half reads. -/
theorem colsR_at (t : Fin cfg0.N) (ht : 10 ≤ t.val) (h5) (x : FVec Ideal S1x5120 .f32) (r : Fin 1) (k : Fin 512) :
    colsR (F := Ideal) (grid0.coords t) h5 x (ix2 r k) = x (ix2 r ⟨(t.val - 10) * 512 + k.val, by have := lt20 t; omega⟩) := by
  unfold colsR
  refine congrArg x (funext fun a => Fin.ext ?_)
  refine (Rect.idx_unit_val _ _ _ _ a).trans ?_
  match a with
  | ⟨0, _⟩ => show k0_off3 (grid0.coords t) 0 + r.val = r.val; rw [(off3 t ht).1, Nat.zero_add]
  | ⟨1, _⟩ => show k0_off3 (grid0.coords t) 1 + k.val = (t.val - 10) * 512 + k.val; rw [(off3 t ht).2]

/-- A partial product of the first half, one entry. -/
theorem pay2_at (a : FVec Ideal S64x512 .f32) (w : FVec Ideal S512x5120 .f32) (r : Fin 64) (l : Fin 5120) :
    k0_pay2 (F := Ideal) a w (ix2 r l) = ∑ k : Fin 512, a (ix2 r k) * w (ix2 k l) := by
  pointwise [k0_pay2, k0_pay1]
/-- The hidden scratch after adding a partial product, one entry. -/
theorem pay3_at (a : FVec Ideal S64x512 .f32) (w : FVec Ideal S512x5120 .f32) (h : FVec Ideal S64x5120 .f32) (r : Fin 64) (l : Fin 5120) :
    k0_pay3 (F := Ideal) a w h (ix2 r l) = h (ix2 r l) + ∑ k : Fin 512, a (ix2 r k) * w (ix2 k l) := by
  pointwise [k0_pay3, k0_pay1]
/-- The output's sum after adding a partial product, one entry. -/
theorem pay8_at (a h : FVec Ideal S64x5120 .f32) (r : Fin 64) (l : Fin 5120) :
    k0_pay8 (F := Ideal) a h (ix2 r l) = h (ix2 r l) + a (ix2 r l) := by
  pointwise [k0_pay8]
/-- A row's mean, as the kernel computes it. -/
theorem pay6_at (h : FVec Ideal S64x5120 .f32) (b : FVec Ideal S1x5120 .f32) (r : Fin 64) :
    k0_pay6 (F := Ideal) h b (ix2 r 0) = Maths.mean fun k => h (ix2 r k) + b (ix2 0 k) := by
  pointwise [k0_pay6, k0_pay5, k0_pay4]
  rfl
/-- The inverse root of a row's variance, as the kernel computes it. -/
theorem pay7_at (h : FVec Ideal S64x5120 .f32) (b : FVec Ideal S1x5120 .f32) (r : Fin 64) :
    k0_pay7 (F := Ideal) h b (ix2 r 0) = Ideal.rsqrt (Maths.var (fun k => h (ix2 r k) + b (ix2 0 k)) + Maths.pad) := by
  pointwise [k0_pay7, k0_pay5, k0_pay4]
  rfl
/-- A partial product of the second half, one entry. -/
theorem pay10_at (h : FVec Ideal S64x512 .f32) (b : FVec Ideal S1x512 .f32) (mu isd : FVec Ideal S64x1 .f32) (lw lb : FVec Ideal S1x512 .f32)
    (w : FVec Ideal S512x5120 .f32) (r : Fin 64) (l : Fin 5120) :
    k0_pay10 (F := Ideal) h b mu isd lw lb w (ix2 r l)
      = ∑ k : Fin 512, Maths.act ((h (ix2 r k) + b (ix2 0 k) - mu (ix2 r 0)) * isd (ix2 r 0) * lw (ix2 0 k) + lb (ix2 0 k)) * w (ix2 k l) := by
  pointwise [k0_pay10]
  rfl
/-- The last step's row scaled to unit length, one entry. -/
theorem pay9_at (e s : FVec Ideal S64x5120 .f32) (b : FVec Ideal S1x5120 .f32) (r : Fin 64) (l : Fin 5120) :
    k0_pay9 (F := Ideal) e s b (ix2 r l) = Maths.unit (fun k => e (ix2 r k) + Maths.fifth * (s (ix2 r k) + b (ix2 0 k))) l := by
  pointwise [k0_pay9]
  rfl

/-! ## The first half: the hidden rows -/

/-- After point 9 the hidden rows are the whole product of the embeddings and the first weight. -/
theorem hid_nine (c : Dev nD) (r : Fin 64) (l : Fin 5120) :
    hid V c 9 nine.isLt (ix2 r l) = ∑ j : Fin 5120, xE V c (ix2 r j) * xW1 V c (ix2 j l) := by
  have hlt : ∀ {n : ℕ}, n < 10 → n < cfg0.N := fun {n} h => lt_of_lt_of_eq (lt_trans h (by decide : 10 < 20)) N_0.symm
  have h := Pipeline.eq_sum_fin_of_reset_step_apply_last (N := 10) (M := EReal)
    (fun n h (l : Fin 5120) => (hid V c n (hlt h) : FVec Ideal S64x5120 .f32) (ix2 r l)) 10 (fun _ => 0)
    (fun p l => ∑ k : Fin 512, xE V c (ix2 r ⟨p.val * 512 + k.val, by omega⟩) * xW1 V c (ix2 ⟨p.val * 512 + k.val, by omega⟩ l))
    (fun p hp l => by
      have h0 : p.val = 0 := by omega
      rw [zero_add]
      refine (congrFun (hid_zero V c ⟨p.val, hlt p.isLt⟩ h0 (on1 _ p.isLt)) _).trans ((pay2_at _ _ r l).trans ?_)
      refine Finset.sum_congr rfl fun k _ => ?_
      rw [colsE_at ⟨p.val, hlt p.isLt⟩ p.isLt, w1_at V c ⟨p.val, hlt p.isLt⟩ p.isLt, emb_eq])
    (fun p hp l => by
      have h0 : p.val ≠ 0 := fun h => hp (by rw [h])
      refine (congrFun (hid_step V c ⟨p.val, hlt p.isLt⟩ h0 (on1 _ p.isLt)) _).trans ((pay3_at _ _ _ r l).trans ?_)
      refine congrArg₂ (· + ·) rfl (Finset.sum_congr rfl fun k _ => ?_)
      rw [colsE_at ⟨p.val, hlt p.isLt⟩ p.isLt, w1_at V c ⟨p.val, hlt p.isLt⟩ p.isLt, emb_eq])
    (le_refl 10) ⟨9, by decide⟩ rfl l
  refine h.trans ((zero_add _).trans ?_)
  exact (Fin.sum_univ_tiles 10 512 rfl fun j : Fin 5120 => xE V c (ix2 r j) * xW1 V c (ix2 j l)).symm

/-- The second half leaves the hidden rows alone. -/
theorem hid_late (c : Dev nD) : ∀ (n : ℕ) (h : n < cfg0.N), 9 ≤ n → hid V c n h = hid V c 9 nine.isLt := by
  intro n
  induction n with
  | zero => intro _ h9; omega
  | succ n ih =>
    intro h h9
    by_cases hn : n + 1 = 9
    · obtain rfl : n = 8 := by omega
      rfl
    · exact (hid_keep V c ⟨n + 1, h⟩ (Nat.succ_ne_zero n) (off1' _ (by show 10 ≤ n + 1; omega))).trans (ih _ (by omega))

/-- Row `r`'s hidden values. -/
def hrow (c : Dev nD) (r : Fin 64) : Fin 5120 → EReal :=
  Maths.hidden (fun j => xE V c (ix2 r j)) (fun j k => xW1 V c (ix2 j k)) fun k => xB1 V c (ix2 0 k)

/-- The hidden scratch with the bias, once the first half is done: the hidden row. -/
theorem hrow_eq (c : Dev nD) (r : Fin 64) (k : Fin 5120) :
    (hid V c 9 nine.isLt : FVec Ideal S64x5120 .f32) (ix2 r k) + xB1 V c (ix2 0 k) = hrow V c r k := by
  rw [hid_nine]; rfl

/-- The stored mean is the hidden row's. -/
theorem mu_at (c : Dev nD) (r : Fin 64) : mu V c (ix2 r 0) = Maths.mean (hrow V c r) := by
  unfold mu
  rw [b1_eq]
  exact (pay6_at _ _ r).trans (congrArg Maths.mean (funext fun k => hrow_eq V c r k))
/-- The stored inverse root is that of the hidden row's variance. -/
theorem isd_at (c : Dev nD) (r : Fin 64) : isd V c (ix2 r 0) = Ideal.rsqrt (Maths.var (hrow V c r) + Maths.pad) := by
  unfold isd
  rw [b1_eq]
  exact (pay7_at _ _ r).trans (congrArg (fun h => Ideal.rsqrt (Maths.var h + Maths.pad)) (funext fun k => hrow_eq V c r k))

/-! ## The second half: the output's accumulator -/

/-- Row `r` normalised. -/
def nrow (c : Dev nD) (r : Fin 64) : Fin 5120 → EReal :=
  Maths.normed (hrow V c r) (fun k => xLW V c (ix2 0 k)) fun k => xLB V c (ix2 0 k)

/-- What point `t` of the second half adds: its block's share of the second product. -/
theorem add_at (c : Dev nD) (t : Fin cfg0.N) (ht : 10 ≤ t.val) (h5) (r : Fin 64) (l : Fin 5120) :
    (add V c t h5 : FVec Ideal S64x5120 .f32) (ix2 r l)
      = ∑ k : Fin 512, Maths.act (nrow V c r ⟨(t.val - 10) * 512 + k.val, by have := lt20 t; omega⟩)
          * xW2 V c (ix2 ⟨(t.val - 10) * 512 + k.val, by have := lt20 t; omega⟩ l) := by
  unfold add part
  rw [hid_late V c _ _ (by omega), b1_eq, lnw_eq, lnb_eq]
  refine (pay10_at _ _ _ _ _ _ _ r l).trans (Finset.sum_congr rfl fun k _ => ?_)
  rw [colsH_at t ht, colsR_at t ht, colsR_at t ht, colsR_at t ht, mu_at, isd_at, w2_at V c t ht, hrow_eq]
  rfl

/-- The output's sum depends on the step's number alone. -/
theorem sum_at_eq (c : Dev nD) {n n' : ℕ} (e : n = n') (h : n < cfg0.N) (h' : n' < cfg0.N) : sum V c n h = sum V c n' h' := by subst e; rfl

/-- After the last point the accumulator is the whole second product. -/
theorem sum_last (c : Dev nD) (h19 : 19 < cfg0.N) (r : Fin 64) (l : Fin 5120) :
    (sum V c 19 h19 : FVec Ideal S64x5120 .f32) (ix2 r l) = ∑ j : Fin 5120, Maths.act (nrow V c r j) * xW2 V c (ix2 j l) := by
  have hlt : ∀ {n : ℕ}, n < 10 → n + 10 < cfg0.N := fun {n} h => lt_of_lt_of_eq (Nat.add_lt_add_right h 10) N_0.symm
  have h := Pipeline.eq_sum_fin_of_reset_step_apply_last (N := 10) (M := EReal)
    (fun n h (l : Fin 5120) => (sum V c (n + 10) (hlt h) : FVec Ideal S64x5120 .f32) (ix2 r l)) 10 (fun _ => 0)
    (fun p l => ∑ k : Fin 512, Maths.act (nrow V c r ⟨p.val * 512 + k.val, by omega⟩) * xW2 V c (ix2 ⟨p.val * 512 + k.val, by omega⟩ l))
    (fun p hp l => by
      have h0 : p.val = 0 := by omega
      rw [zero_add]
      refine (congrFun (sum_ten V c ⟨p.val + 10, hlt p.isLt⟩ (by show p.val + 10 = 10; omega) (on5 _ (Nat.le_add_left 10 _))) _).trans
        ((add_at V c _ (Nat.le_add_left 10 _) _ r l).trans ?_)
      simp only [Nat.add_sub_cancel])
    (fun p hp l => by
      have h0 : p.val ≠ 0 := fun h => hp (by rw [h])
      refine (congrFun (sum_step V c ⟨p.val + 10, hlt p.isLt⟩ (by show 10 < p.val + 10; omega) (on5 _ (Nat.le_add_left 10 _))) _).trans
        ((pay8_at _ _ r l).trans ?_)
      refine congrArg₂ (· + ·) (congrFun (sum_at_eq V c (by show p.val + 10 - 1 = p.val - 1 + 10; omega) _ _) _)
        ((add_at V c _ (Nat.le_add_left 10 _) _ r l).trans ?_)
      simp only [Nat.add_sub_cancel])
    (le_refl 10) ⟨9, by decide⟩ rfl l
  refine h.trans ((zero_add _).trans ?_)
  exact (Fin.sum_univ_tiles 10 512 rfl fun j : Fin 5120 => Maths.act (nrow V c r j) * xW2 V c (ix2 j l)).symm

/-- Row `r` of unit length: what the call leaves. -/
def urow (c : Dev nD) (r : Fin 64) : Fin 5120 → EReal :=
  Maths.unit (Maths.mixed (fun k => xE V c (ix2 r k)) (hrow V c r) (fun k => xLW V c (ix2 0 k)) (fun k => xLB V c (ix2 0 k))
    (fun j k => xW2 V c (ix2 j k)) fun k => xB2 V c (ix2 0 k))

/-- The last point. -/
abbrev last : Fin cfg0.N := ⟨19, by rw [show cfg0.N = 20 from N_0]; decide⟩

/-- What the last step leaves: the unit row. -/
theorem left_last (c : Dev nD) (r : Fin 64) (l : Fin 5120) : (left V c last : FVec Ideal S64x5120 .f32) (ix2 r l) = urow V c r l := by
  unfold left
  rw [if_pos rfl, emb_eq, b2_eq]
  refine (pay9_at _ _ _ r l).trans (congrArg (fun t => Maths.unit t l) (funext fun k => ?_))
  rw [sum_last]
  rfl

/-- The call's result array: each row normalised, activated, mixed in and scaled to unit length. -/
theorem out_eq (c : Dev nD) :
    (dat V c).arrAt 7 cfg0.N = (fun i => urow V c (i 0) (i 1) : FVec Ideal S64x5120 .f32) := by
  refine (dat V c).arrAt_eq_of_after_last 7 last (by decide +kernel) _ fun j => ?_
  rw [after_out]
  blk_simp
  exact (congrArg (left V c last : FVec Ideal S64x5120 .f32) (eq_ix2 j)).trans (left_last V c (j 0) (j 1))

end Value

end Cert.KernelIdeal.Mlp
-- ==== Proof.FlashValue.lean ====
/- What the second call computes over the extended reals, one element at a time: the weighted sum of the vocabulary's rows and the weights'
   sum, each over the whole vocabulary, and the blend it leaves in its result array. -/
module

public import proofs.«01_k».proof.Proof.FlashRegion
public import proofs.«01_k».proof.Proof.Maths
public import Idealize.ShloMosaic.Lib.Pointwise
public import Idealize.ShloMosaic.Lib.Pipeline.ValueKit

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL.Sem
open Idealize.ShloMosaic.Pipeline (Dat)

section Value

variable (V : Dev nD → Valuation τ sig (Elt Ideal))

/-- The rows of unit length the call reads. -/
abbrev xT (c : Dev nD) : FVec Ideal S64x5120 .f32 := V c (Proc.devRef .tc main_v4)
/-- The vocabulary the call reads. -/
abbrev xV (c : Dev nD) : FVec Ideal S32000x5120 .f32 := V c (Proc.devRef .tc main_arg8)

/-- The windows' block indices at every point. -/
theorem idx : ∀ t : Fin cfg1.N, win1_0.index t = ![0, 0] ∧ win1_1.index t = ![t.val, 0] ∧ win1_2.index t = ![0, 0] :=
  (by decide +kernel : ∀ t : Fin grid1.N, _)

/-- There are 32 steps. -/
theorem lt32 (t : Fin cfg1.N) : t.val < 32 := lt_of_lt_of_eq t.isLt N_1

/-- Every step reads all the unit rows. -/
theorem rows_eq (c : Dev nD) (t : Fin cfg1.N) : rows V c t = xT V c := by blk_ext! [blk, idx t]
/-- Row `k` of the vocabulary's block at point `t`. -/
theorem voc_at (c : Dev nD) (t : Fin cfg1.N) (k : Fin 1000) (l : Fin 5120) :
    voc V c t (ix2 k l) = xV V c (ix2 ⟨t.val * 1000 + k.val, by have := lt32 t; omega⟩ l) := by
  blk_ext [blk, idx t]

/-- A block's unnormalised weights. -/
theorem pay4_at (v : FVec Ideal S1000x5120 .f32) (u : FVec Ideal S64x5120 .f32) (r : Fin 64) (k : Fin 1000) :
    k1_pay4 (F := Ideal) v u (ix2 r k) = Maths.weight (fun l => u (ix2 r l)) fun l => v (ix2 k l) := by
  have h1 : Named.named (F := Ideal) (φ := .f32) κ "eps_sq" 0x179ABE15#32 = Maths.tinySq := IdealRules.named_const.ideal_named_scalar _ _ _ _ rfl
  have h2 : Named.named (F := Ideal) (φ := .f32) κ "inv_temp" 0x41200000#32 = Maths.heat := IdealRules.named_const.ideal_named_scalar _ _ _ _ rfl
  pointwise [k1_pay4, h1, h2]
  rfl
/-- The weights' sum after a step, one row of it. -/
theorem pay5_at (v : FVec Ideal S1000x5120 .f32) (u : FVec Ideal S64x5120 .f32) (s : FVec Ideal S64x1 .f32) (r : Fin 64) :
    k1_pay5 (F := Ideal) v u s (ix2 r 0) = s (ix2 r 0) + ∑ k : Fin 1000, k1_pay4 (F := Ideal) v u (ix2 r k) := by
  pointwise [k1_pay5]
/-- The weighted sum of vocabulary rows after a step, one entry of it. -/
theorem pay6_at (v : FVec Ideal S1000x5120 .f32) (u s : FVec Ideal S64x5120 .f32) (r : Fin 64) (l : Fin 5120) :
    k1_pay6 (F := Ideal) v u s (ix2 r l) = s (ix2 r l) + ∑ k : Fin 1000, k1_pay4 (F := Ideal) v u (ix2 r k) * v (ix2 k l) := by
  pointwise [k1_pay6]
/-- The weights' sum starts at zero. -/
theorem pay2_at (r : Fin 64) : k1_pay2 (F := Ideal) (ix2 r 0) = 0 := by pointwise [k1_pay2]
/-- The weighted sum starts at zero. -/
theorem pay3_at (r : Fin 64) (l : Fin 5120) : k1_pay3 (F := Ideal) (ix2 r l) = 0 := by pointwise [k1_pay3]
/-- The last step divides the weighted sum by the weights' sum. -/
theorem pay1_at (a : FVec Ideal S64x5120 .f32) (s : FVec Ideal S64x1 .f32) (r : Fin 64) (l : Fin 5120) :
    k1_pay1 (F := Ideal) a s (ix2 r l) = Ideal.div (a (ix2 r l)) (s (ix2 r 0)) := by pointwise [k1_pay1]

/-- Row `r` of the rows of unit length. -/
abbrev trow (c : Dev nD) (r : Fin 64) : Fin 5120 → EReal := fun l => xT V c (ix2 r l)
/-- Row `i` of the vocabulary. -/
abbrev vrow (c : Dev nD) (i : Fin 32000) : Fin 5120 → EReal := fun l => xV V c (ix2 i l)

/-- A step's weight, in the shared mathematics' words. -/
theorem wt_at (c : Dev nD) (t : Fin cfg1.N) (r : Fin 64) (k : Fin 1000) :
    k1_pay4 (F := Ideal) (voc V c t) (rows V c t) (ix2 r k)
      = Maths.weight (trow V c r) (vrow V c ⟨t.val * 1000 + k.val, by have := lt32 t; omega⟩) := by
  rw [rows_eq]
  exact (pay4_at _ _ r k).trans (congrArg (Maths.weight _) (funext fun l => voc_at V c t k l))

/-- The last point. -/
abbrev last : Fin cfg1.N := ⟨31, by rw [show cfg1.N = 32 from N_1]; decide⟩

/-- After the last point the first accumulator is the whole weighted sum. -/
theorem acc_last (c : Dev nD) (r : Fin 64) (l : Fin 5120) :
    ((acc V c 31 last.isLt).1 : FVec Ideal S64x5120 .f32) (ix2 r l)
      = ∑ i : Fin 32000, Maths.weight (trow V c r) (vrow V c i) * vrow V c i l := by
  have hlt : ∀ {n : ℕ}, n < 32 → n < cfg1.N := fun {n} h => lt_of_lt_of_eq h N_1.symm
  have h := Pipeline.eq_sum_fin_of_reset_step_apply_last (N := 32) (M := EReal)
    (fun n h (l : Fin 5120) => ((acc V c n (hlt h)).1 : FVec Ideal S64x5120 .f32) (ix2 r l)) 32 (fun _ => 0)
    (fun p l => ∑ k : Fin 1000, Maths.weight (trow V c r) (vrow V c ⟨p.val * 1000 + k.val, by omega⟩) * vrow V c ⟨p.val * 1000 + k.val, by omega⟩ l)
    (fun p hp l => by
      have h0 : p.val = 0 := by omega
      refine (congrFun (congrArg Prod.fst (acc_zero V c ⟨p.val, hlt p.isLt⟩ h0)) _).trans ((pay6_at _ _ _ r l).trans ?_)
      refine congrArg₂ (· + ·) (pay3_at r l) (Finset.sum_congr rfl fun k _ => ?_)
      rw [wt_at, voc_at])
    (fun p hp l => by
      have h0 : p.val ≠ 0 := fun h => hp (by rw [h])
      refine (congrFun (congrArg Prod.fst (acc_pos V c ⟨p.val, hlt p.isLt⟩ h0)) _).trans ((pay6_at _ _ _ r l).trans ?_)
      refine congrArg₂ (· + ·) rfl (Finset.sum_congr rfl fun k _ => ?_)
      rw [wt_at, voc_at])
    (le_refl 32) ⟨31, by decide⟩ rfl l
  refine h.trans ((zero_add _).trans ?_)
  exact (Fin.sum_univ_tiles 32 1000 rfl fun i : Fin 32000 => Maths.weight (trow V c r) (vrow V c i) * vrow V c i l).symm

/-- After the last point the second accumulator is the sum of all the weights. -/
theorem norm_last (c : Dev nD) (r : Fin 64) :
    ((acc V c 31 last.isLt).2 : FVec Ideal S64x1 .f32) (ix2 r 0) = ∑ i : Fin 32000, Maths.weight (trow V c r) (vrow V c i) := by
  have hlt : ∀ {n : ℕ}, n < 32 → n < cfg1.N := fun {n} h => lt_of_lt_of_eq h N_1.symm
  have h := Pipeline.eq_sum_fin_of_reset_step_apply_last (N := 32) (M := EReal)
    (fun n h (r : Fin 64) => ((acc V c n (hlt h)).2 : FVec Ideal S64x1 .f32) (ix2 r 0)) 32 (fun _ => 0)
    (fun p r => ∑ k : Fin 1000, Maths.weight (trow V c r) (vrow V c ⟨p.val * 1000 + k.val, by omega⟩))
    (fun p hp r => by
      have h0 : p.val = 0 := by omega
      refine (congrFun (congrArg Prod.snd (acc_zero V c ⟨p.val, hlt p.isLt⟩ h0)) _).trans ((pay5_at _ _ _ r).trans ?_)
      refine congrArg₂ (· + ·) (pay2_at r) (Finset.sum_congr rfl fun k _ => ?_)
      rw [wt_at])
    (fun p hp r => by
      have h0 : p.val ≠ 0 := fun h => hp (by rw [h])
      refine (congrFun (congrArg Prod.snd (acc_pos V c ⟨p.val, hlt p.isLt⟩ h0)) _).trans ((pay5_at _ _ _ r).trans ?_)
      refine congrArg₂ (· + ·) rfl (Finset.sum_congr rfl fun k _ => ?_)
      rw [wt_at])
    (le_refl 32) ⟨31, by decide⟩ rfl r
  refine h.trans ((zero_add _).trans ?_)
  exact (Fin.sum_univ_tiles 32 1000 rfl fun i : Fin 32000 => Maths.weight (trow V c r) (vrow V c i)).symm

/-- What the last step leaves: a row's blend of the vocabulary. -/
theorem left_last (c : Dev nD) (r : Fin 64) (l : Fin 5120) :
    (left V c last : FVec Ideal S64x5120 .f32) (ix2 r l) = Maths.blend (trow V c r) (vrow V c) l := by
  unfold left
  rw [if_pos rfl]
  refine (pay1_at _ _ r l).trans ?_
  rw [acc_last, norm_last]
  rfl

/-- The call's result array: each row's blend of the vocabulary. -/
theorem out_eq (c : Dev nD) :
    (dat V c).arrAt 2 cfg1.N = (fun i => Maths.blend (trow V c (i 0)) (vrow V c) (i 1) : FVec Ideal S64x5120 .f32) := by
  refine (dat V c).arrAt_eq_of_after_last 2 last (by decide +kernel) _ fun j => ?_
  rw [after_out]
  blk_simp
  exact (congrArg (left V c last : FVec Ideal S64x5120 .f32) (eq_ix2 j)).trans (left_last V c (j 0) (j 1))

end Value

end Cert.KernelIdeal.Flash
-- ==== Proof.Value.lean ====
/- What the whole program leaves in its result array over the extended reals, in the launch's arguments: the two calls' results composed, each
   argument read through the host's reshapes. -/
module

public import proofs.«01_k».proof.Proof.Run
public import proofs.«01_k».proof.Proof.MlpValue
public import proofs.«01_k».proof.Proof.FlashValue
public import Idealize.ShloMosaic.Lib.Claim

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL.Sem

/-- The result as a function of the arguments: every row normalised, activated, mixed in, scaled to unit length, and blended over the vocabulary. -/
def answer (E : FVec Ideal S64x5120 .f32) (W1 : FVec Ideal S5120x5120 .f32) (B1 LW LB : FVec Ideal S5120 .f32) (W2 : FVec Ideal S5120x5120 .f32)
    (B2 : FVec Ideal S5120 .f32) (X : FVec Ideal S32000x5120 .f32) (r : Fin 64) (l : Fin 5120) : EReal :=
  Maths.blend
    (Maths.unit (Maths.mixed (fun k => E (ix2 r k)) (Maths.hidden (fun j => E (ix2 r j)) (fun j k => W1 (ix2 j k)) fun k => B1 (ix1 k))
      (fun k => LW (ix1 k)) (fun k => LB (ix1 k)) (fun j k => W2 (ix2 j k)) fun k => B2 (ix1 k)))
    (fun i k => X (ix2 i k)) l

variable (m : (ℓ : Loc nD τ sig) → Buf (Elt Ideal) ℓ)

/-- A vector reshaped to a row holds the vector's entries. -/
theorem row_at (b : FVec Ideal S5120 .f32) (k : Fin 5120) : shapeCast S1x5120 b shapeCasts_S5120_S1x5120 (ix2 0 k) = b (ix1 k) := by
  pointwise

/-- The first bias as the first call finds it: the argument, as a row. -/
theorem row_b1 (c : Dev nD) (k : Fin 5120) : Mlp.xB1 (V1 m) c (ix2 0 k) = (m ((c : Thread nD τ).loc main_arg3) : FVec Ideal S5120 .f32) (ix1 k) := by
  have h : Mlp.xB1 (V1 m) c = shapeCast S1x5120 (m ((c : Thread nD τ).loc main_arg3) : FVec Ideal S5120 .f32) shapeCasts_S5120_S1x5120 := by
    show StableHlo.after hostOps0 (V0 m c) (Proc.devRef .tc main_v0) = _
    after_results
    try rfl
  rw [h]
  exact row_at _ k
/-- The scale as the first call finds it: the argument, as a row. -/
theorem row_lw (c : Dev nD) (k : Fin 5120) : Mlp.xLW (V1 m) c (ix2 0 k) = (m ((c : Thread nD τ).loc main_arg4) : FVec Ideal S5120 .f32) (ix1 k) := by
  have h : Mlp.xLW (V1 m) c = shapeCast S1x5120 (m ((c : Thread nD τ).loc main_arg4) : FVec Ideal S5120 .f32) shapeCasts_S5120_S1x5120 := by
    show StableHlo.after hostOps0 (V0 m c) (Proc.devRef .tc main_v1) = _
    after_results
    try rfl
  rw [h]
  exact row_at _ k
/-- The shift as the first call finds it: the argument, as a row. -/
theorem row_lb (c : Dev nD) (k : Fin 5120) : Mlp.xLB (V1 m) c (ix2 0 k) = (m ((c : Thread nD τ).loc main_arg5) : FVec Ideal S5120 .f32) (ix1 k) := by
  have h : Mlp.xLB (V1 m) c = shapeCast S1x5120 (m ((c : Thread nD τ).loc main_arg5) : FVec Ideal S5120 .f32) shapeCasts_S5120_S1x5120 := by
    show StableHlo.after hostOps0 (V0 m c) (Proc.devRef .tc main_v2) = _
    after_results
    try rfl
  rw [h]
  exact row_at _ k
/-- The second bias as the first call finds it: the argument, as a row. -/
theorem row_b2 (c : Dev nD) (k : Fin 5120) : Mlp.xB2 (V1 m) c (ix2 0 k) = (m ((c : Thread nD τ).loc main_arg7) : FVec Ideal S5120 .f32) (ix1 k) := by
  have h : Mlp.xB2 (V1 m) c = shapeCast S1x5120 (m ((c : Thread nD τ).loc main_arg7) : FVec Ideal S5120 .f32) shapeCasts_S5120_S1x5120 := by
    show StableHlo.after hostOps0 (V0 m c) (Proc.devRef .tc main_v3) = _
    after_results
    try rfl
  rw [h]
  exact row_at _ k
/-- The first call finds the embeddings as launched. -/
theorem at_e (c : Dev nD) : Mlp.xE (V1 m) c = m ((c : Thread nD τ).loc main_arg0) := V1_of m c main_arg0 (by decide)
/-- The first call finds the first weight as launched. -/
theorem at_w1 (c : Dev nD) : Mlp.xW1 (V1 m) c = m ((c : Thread nD τ).loc main_arg2) := V1_of m c main_arg2 (by decide)
/-- The first call finds the second weight as launched. -/
theorem at_w2 (c : Dev nD) : Mlp.xW2 (V1 m) c = m ((c : Thread nD τ).loc main_arg6) := V1_of m c main_arg6 (by decide)
/-- The second call finds the vocabulary as launched. -/
theorem at_v (c : Dev nD) : Flash.xV (Vmid m) c = m ((c : Thread nD τ).loc main_arg8) := by
  unfold Flash.xV Vmid
  rw [Function.update_of_ne (StableHlo.devRef_ne_of_ne (by decide : main_arg8 ≠ main_v4))]
  exact V1_of m c main_arg8 (by decide)
/-- The second call finds the first call's result. -/
theorem at_t (c : Dev nD) : Flash.xT (Vmid m) c = mid m c := by
  unfold Flash.xT Vmid
  exact Function.update_self _ _ _

/-- The first call's result: each row at unit length. -/
theorem mid_eq (c : Dev nD) (r : Fin 64) (l : Fin 5120) : (mid m c : FVec Ideal S64x5120 .f32) (ix2 r l) = Mlp.urow (V1 m) c r l := by
  unfold mid; exact congrFun (Mlp.out_eq (V1 m) c) (ix2 r l)

/-- The result array after the run. -/
theorem fin_eq (c : Dev nD) : fin m c = (fun i => answer (m ((c : Thread nD τ).loc main_arg0)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (i 0) (i 1) : FVec Ideal S64x5120 .f32) := by
  unfold fin
  rw [Flash.out_eq]
  funext i
  have ht : ∀ r : Fin 64, Flash.trow (Vmid m) c r = Mlp.urow (V1 m) c r := fun r => funext fun l => by
    unfold Flash.trow; rw [at_t]; exact mid_eq m c r l
  have hv : Flash.vrow (Vmid m) c = fun i k => (m ((c : Thread nD τ).loc main_arg8) : FVec Ideal S32000x5120 .f32) (ix2 i k) := by
    unfold Flash.vrow; rw [at_v]
  have hall : ∀ (r : Fin 64) (l : Fin 5120), Maths.blend (Flash.trow (Vmid m) c r) (Flash.vrow (Vmid m) c) l
      = answer (m ((c : Thread nD τ).loc main_arg0)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) r l := fun r l => by
    rw [ht, hv]
    unfold answer Mlp.urow Mlp.hrow
    rw [at_e, at_w1, at_w2, funext (row_b1 m c), funext (row_lw m c), funext (row_lb m c), funext (row_b2 m c)]
  exact hall (i 0) (i 1)

variable (ρ : Dev nD → PrngReg)

/-- The program's run: its result array, and its arguments as launched. -/
theorem run_value : θ_run (defs (F := Ideal)) (onTc (τ := τ) (main (F := Ideal))) ⟨m, fun _ => 0, ρ⟩ (fun r => ∀ c : Dev nD,
    r.2.mem ((c : Thread nD τ).loc main_v5) = fin m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)) :=
  (θ_run defs _ _).mono (fun r h c => ⟨(h.1 c main_v5 (by decide)).trans ((Function.update_self _ _ _).trans (outs_v5 m 3 c)),
      (h.1 c main_arg0 (by decide)).trans (V3_main_arg0 m (outs m) c), (h.1 c main_arg1 (by decide)).trans (V3_main_arg1 m (outs m) c),
      (h.1 c main_arg2 (by decide)).trans (V3_main_arg2 m (outs m) c), (h.1 c main_arg3 (by decide)).trans (V3_main_arg3 m (outs m) c),
      (h.1 c main_arg4 (by decide)).trans (V3_main_arg4 m (outs m) c), (h.1 c main_arg5 (by decide)).trans (V3_main_arg5 m (outs m) c),
      (h.1 c main_arg6 (by decide)).trans (V3_main_arg6 m (outs m) c), (h.1 c main_arg7 (by decide)).trans (V3_main_arg7 m (outs m) c),
      (h.1 c main_arg8 (by decide)).trans (V3_main_arg8 m (outs m) c)⟩) (run_all m ρ)

end Cert.KernelIdeal.Whole
-- ==== Proof.RefValue.lean ====
/- What the reference computes over the extended reals, one element at a time, in the shared mathematics' words. -/
module

public import proofs.«01_k».proof.Proof.Gen.ReferenceIdeal.Run
public import proofs.«01_k».proof.Proof.Maths
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe
open Idealize.SL.Sem

variable (V0 : Valuation τ sig (Elt Ideal))

/-- The embeddings. -/
abbrev xE : FVec Ideal S64x5120 .f32 := V0 (Proc.devRef .tc main_arg0)
/-- The first weight. -/
abbrev xW1 : FVec Ideal S5120x5120 .f32 := V0 (Proc.devRef .tc main_arg2)
/-- The first bias. -/
abbrev xB1 : FVec Ideal S5120 .f32 := V0 (Proc.devRef .tc main_arg3)
/-- The normalisation's scale. -/
abbrev xLW : FVec Ideal S5120 .f32 := V0 (Proc.devRef .tc main_arg4)
/-- The normalisation's shift. -/
abbrev xLB : FVec Ideal S5120 .f32 := V0 (Proc.devRef .tc main_arg5)
/-- The second weight. -/
abbrev xW2 : FVec Ideal S5120x5120 .f32 := V0 (Proc.devRef .tc main_arg6)
/-- The second bias. -/
abbrev xB2 : FVec Ideal S5120 .f32 := V0 (Proc.devRef .tc main_arg7)
/-- The vocabulary. -/
abbrev xV : FVec Ideal S32000x5120 .f32 := V0 (Proc.devRef .tc main_arg8)

/-- Row `r`'s hidden values. -/
def hrow (r : Fin 64) : Fin 5120 → EReal :=
  Maths.hidden (fun j => xE V0 (ix2 r j)) (fun j k => xW1 V0 (ix2 j k)) fun k => xB1 V0 (ix1 k)

/-- The hidden values. -/
theorem v3_at (r : Fin 64) (k : Fin 5120) : (res_main_v3 (F := Ideal) V0 : FVec Ideal S64x5120 .f32) (ix2 r k) = hrow V0 r k := by
  pointwise [res_main_v3]
  rfl

/-- The hidden values less their mean. -/
theorem v5_at (r : Fin 64) (k : Fin 5120) :
    (res_main_call0_v5 (F := Ideal) V0 : FVec Ideal S64x5120 .f32) (ix2 r k) = hrow V0 r k - Maths.mean (hrow V0 r) := by
  pointwise [res_main_call0_v5, v3_at]
  rfl

/-- What the variance is divided by: the row's length. -/
theorem v8_at : (res_main_call0_v8 (F := Ideal) V0 : FVec Ideal S_ .f32) ix0 = Maths.len := by
  pointwise [res_main_call0_v8]
  have h : FloatOps.sitofp (F := Ideal) FTy.f32 (0#32) = 0 := by
    show (((0#32 : BitVec 32).toInt : ℝ) : EReal) = 0
    simp
  rw [h, sub_zero]
  rfl

/-- The normalised rows. -/
def nrow (r : Fin 64) : Fin 5120 → EReal := Maths.normed (hrow V0 r) (fun k => xLW V0 (ix1 k)) fun k => xLB V0 (ix1 k)

/-- The normalised rows. -/
theorem v21_at (r : Fin 64) (k : Fin 5120) : (res_main_v21 (F := Ideal) V0 : FVec Ideal S64x5120 .f32) (ix2 r k) = nrow V0 r k := by
  unfold nrow
  rw [← Maths.normed_eq]
  pointwise [res_main_v21, v3_at, v5_at, v8_at]
  rw [if_pos Maths.len_pos]
  rfl

/-- The rows with their residual. -/
def mrow (r : Fin 64) : Fin 5120 → EReal :=
  Maths.mixed (fun k => xE V0 (ix2 r k)) (hrow V0 r) (fun k => xLW V0 (ix1 k)) (fun k => xLB V0 (ix1 k))
    (fun j k => xW2 V0 (ix2 j k)) fun k => xB2 V0 (ix1 k)

/-- The rows with the perceptron's output mixed in. -/
theorem v35_at (r : Fin 64) (k : Fin 5120) : (res_main_v35 (F := Ideal) V0 : FVec Ideal S64x5120 .f32) (ix2 r k) = mrow V0 r k := by
  unfold mrow Maths.mixed
  simp only [← Maths.act_eq]
  pointwise [res_main_v35, v21_at]
  rfl

/-- A similarity over the temperature. -/
theorem v47_at (r : Fin 64) (i : Fin 32000) :
    (res_main_v47 (F := Ideal) V0 : FVec Ideal S64x32000 .f32) (ix2 r i)
      = Ideal.div (Maths.sim (Maths.unit (mrow V0 r)) fun k => xV V0 (ix2 i k)) Maths.temp := by
  rw [← Maths.sim_eq]
  unfold Maths.unit
  rw [max_comm (Ideal.sqrt _) Maths.tiny]
  pointwise [res_main_v47, v35_at]
  rfl

/-- What a row's similarities are shifted by: a number. -/
theorem shift_real (r : Fin 64) : ∃ q : ℝ, max (Ideal.ofBits .f32 0xFF800000#32)
    (Finset.fold max (Ideal.ofBits .f32 0xFF800000#32) (res_main_v47 (F := Ideal) V0 : FVec Ideal S64x32000 .f32)
      (Finset.univ.filter fun i => reducesTo_S64x32000_S64_d1.drop i = ix1 r)) = q := by
  rw [Maths.bottom_eq]
  refine Maths.fold_max_real _ _ (fun i => ?_) (ix2 r 0) (Finset.mem_filter.2 ⟨Finset.mem_univ _, ?_⟩)
  · rw [eq_ix2 i]
    obtain ⟨q, hq⟩ := Maths.sim_temp_real (Maths.unit (mrow V0 (i 0))) (fun k => xV V0 (ix2 (i 1) k)) (Maths.unit_real _)
    exact ⟨q, (v47_at V0 (i 0) (i 1)).trans hq⟩
  · idx_ext

/-- The softmax's numerators: exponentials of the scaled similarities less one number per row. -/
theorem v54_at (r : Fin 64) : ∃ M : EReal, (∃ q : ℝ, M = q) ∧ ∀ i : Fin 32000, (res_main_v54 (F := Ideal) V0 : FVec Ideal S64x32000 .f32) (ix2 r i)
    = Ideal.exp (Ideal.div (Maths.sim (Maths.unit (mrow V0 r)) fun k => xV V0 (ix2 i k)) Maths.temp - M) := by
  refine ⟨_, shift_real V0 r, fun i => ?_⟩
  pointwise [res_main_v54]
  rw [v47_at]

/-- The reference's result: each row's blend of the vocabulary. -/
theorem out_at (r : Fin 64) (l : Fin 5120) :
    (Host.dotGeneral dot_S64x32000_S32000x5120_S64x5120_1_0_0_1_n_n none (Host.divf (res_main_v54 (F := Ideal) V0) (broadcastInDim S64x32000 ![0, 1] bcast_S64x1_S64x32000_0_1 (broadcastInDim S64x1 ![0] bcast_S64_S64x1_0 (Host.reduceAdd (res_main_v54 V0) (constant S_ .f32 0x00000000#32) reducesTo_S64x32000_S64_d1 h_S_)))) (xV V0) : FVec Ideal S64x5120 .f32) (ix2 r l)
      = Maths.blend (Maths.unit (mrow V0 r)) (fun i k => xV V0 (ix2 i k)) l := by
  obtain ⟨M, hM, h⟩ := v54_at V0 r
  rw [← Maths.blend_eq _ _ (Maths.unit_real _) _ (fun _ => rfl) M hM]
  pointwise [h]

/-- The reference's result as a function of its arguments. -/
theorem out_eq :
    (Host.dotGeneral dot_S64x32000_S32000x5120_S64x5120_1_0_0_1_n_n none (Host.divf (res_main_v54 (F := Ideal) V0) (broadcastInDim S64x32000 ![0, 1] bcast_S64x1_S64x32000_0_1 (broadcastInDim S64x1 ![0] bcast_S64_S64x1_0 (Host.reduceAdd (res_main_v54 V0) (constant S_ .f32 0x00000000#32) reducesTo_S64x32000_S64_d1 h_S_)))) (xV V0) : FVec Ideal S64x5120 .f32)
      = fun i => Maths.blend (Maths.unit (mrow V0 (i 0))) (fun j k => xV V0 (ix2 j k)) (i 1) :=
  funext fun i => (congrArg _ (eq_ix2 i)).trans (out_at V0 (i 0) (i 1))

end Cert.ReferenceIdeal.Value
-- ==== Proof.Algebra.lean ====
/- The two programs' results over the extended reals, from arguments that agree: one function of them. -/
module

public import proofs.«01_k».proof.Proof.Value
public import proofs.«01_k».proof.Proof.RefValue

@[expose] public section

set_option maxRecDepth 16384

noncomputable section

namespace Cert.Algebra

open Idealize.ShloMosaic Idealize.ShloMosaic.TcCoe

/-- The reference's result, from arguments that agree with the kernel's, is what the kernel leaves. -/
theorem results_agree
    (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (h0 : Cert.ReferenceIdeal.Value.xE V0 = m ((c : Thread Cert.KernelIdeal.nD Cert.KernelIdeal.τ).loc Cert.KernelIdeal.main_arg0))
    (h2 : Cert.ReferenceIdeal.Value.xW1 V0 = m ((c : Thread Cert.KernelIdeal.nD Cert.KernelIdeal.τ).loc Cert.KernelIdeal.main_arg2))
    (h3 : Cert.ReferenceIdeal.Value.xB1 V0 = m ((c : Thread Cert.KernelIdeal.nD Cert.KernelIdeal.τ).loc Cert.KernelIdeal.main_arg3))
    (h4 : Cert.ReferenceIdeal.Value.xLW V0 = m ((c : Thread Cert.KernelIdeal.nD Cert.KernelIdeal.τ).loc Cert.KernelIdeal.main_arg4))
    (h5 : Cert.ReferenceIdeal.Value.xLB V0 = m ((c : Thread Cert.KernelIdeal.nD Cert.KernelIdeal.τ).loc Cert.KernelIdeal.main_arg5))
    (h6 : Cert.ReferenceIdeal.Value.xW2 V0 = m ((c : Thread Cert.KernelIdeal.nD Cert.KernelIdeal.τ).loc Cert.KernelIdeal.main_arg6))
    (h7 : Cert.ReferenceIdeal.Value.xB2 V0 = m ((c : Thread Cert.KernelIdeal.nD Cert.KernelIdeal.τ).loc Cert.KernelIdeal.main_arg7))
    (h8 : Cert.ReferenceIdeal.Value.xV V0 = m ((c : Thread Cert.KernelIdeal.nD Cert.KernelIdeal.τ).loc Cert.KernelIdeal.main_arg8)) :
    (fun i => Maths.blend (Maths.unit (Cert.ReferenceIdeal.Value.mrow V0 (i 0))) (fun j k => Cert.ReferenceIdeal.Value.xV V0 (ix2 j k)) (i 1)
      : FVec Ideal Cert.ReferenceIdeal.S64x5120 .f32) = Cert.KernelIdeal.Whole.fin m c := by
  rw [Cert.KernelIdeal.Whole.fin_eq]
  funext i
  unfold Cert.ReferenceIdeal.Value.mrow Cert.ReferenceIdeal.Value.hrow
  rw [h0, h2, h3, h4, h5, h6, h7, h8]
  rfl

end Cert.Algebra
-- ==== Proof.lean ====
/- The claims of this problem: the two programs and the reference run and end with their arguments unchanged and every counter at zero, and the
   kernel's idealised program is its program with the two named constants read exactly. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Algebra
public import proofs.«01_k».proof.Proof.BitsRun
public import Idealize.ShloMosaic.Lib.Quiescent

@[expose] public section

noncomputable section

namespace Cert.Proof

open Idealize.ShloMosaic

/-- The kernel as written: it runs, and leaves its arguments and every counter as they were. -/
theorem frame_kernel : Cert.quiescent_Kernel := fun m ρ _ => Cert.Kernel.Whole.frame (F := Bits) m ρ

/-- The same of its idealised program. -/
theorem frame_ideal : Cert.quiescent_KernelIdeal := fun m ρ _ => Cert.KernelIdeal.Whole.frame (F := Ideal) m ρ

/-- The same of the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealised program is the program with its two named constants at their exact values. -/
theorem named : Cert.preserves_Kernel_KernelIdeal :=
  ⟨IdealRules.named_const.statement Cert.KernelIdeal.κ "eps_sq" .f32 0x179ABE15#32 _ rfl,
    IdealRules.named_const.statement Cert.KernelIdeal.κ "inv_temp" .f32 0x41200000#32 _ rfl⟩

/-- From the same arguments, every one of them, the idealised kernel and the reference leave the same result. -/
theorem algebraic : Cert.algebraic_KernelIdeal_ReferenceIdeal := by
  intro m ρ m' ρ' _ hagree
  refine ⟨_, Cert.KernelIdeal.Whole.run_value m ρ, ?_⟩
  refine (θ_run Cert.ReferenceIdeal.defs _ _).mono (fun _ h c => ⟨(h c).1.trans ?_, (h c).2⟩) (Cert.ReferenceIdeal.Value.run (F := Ideal) m' ρ')
  obtain ⟨h0, -, h2, h3, h4, h5, h6, h7, h8⟩ := hagree c
  exact (Cert.ReferenceIdeal.Value.out_eq _).trans (Cert.Algebra.results_agree m c _ h0 h2 h3 h4 h5 h6 h7 h8)

/-- All the claims. -/
theorem claim : Cert.Claim :=
  ⟨Cert.Kernel.Gen.facts, Cert.KernelIdeal.Gen.facts, Cert.ReferenceIdeal.Gen.facts, frame_kernel, frame_ideal, frame_reference, named, algebraic⟩

end Cert.Proof

end
